-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_affine [hPre_finite_affine : Cert.Pre_finite_affine.Facts] (m : (ℓ : Loc Cert.KernelIdeal.nD Cert.KernelIdeal.τ Cert.KernelIdeal.sig) → Buf (Elt Ideal) ℓ) : Prop :=
  ∀ c : Dev Cert.KernelIdeal.nD,
    (Cert.Pre_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_affine [hPre_finite_affine : Cert.Pre_finite_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_affine [hKernelIdeal : Cert.KernelIdeal.Facts] [hPre_finite_affine : Cert.Pre_finite_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_affine [hReferenceIdeal : Cert.ReferenceIdeal.Facts] [hPre_finite_affine : Cert.Pre_finite_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_affine [hKernelIdeal : Cert.KernelIdeal.Facts] [hReferenceIdeal : Cert.ReferenceIdeal.Facts] [hPre_finite_affine : Cert.Pre_finite_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v17)) (v5 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_v17) = v4 c
          ∧ r.2.mem ((c.tc : Thread Cert.KernelIdeal.nD Cert.KernelIdeal.τ).loc Cert.KernelIdeal.main_v18) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v14) = v4 c
          ∧ r.2.mem ((c.tc : Thread Cert.ReferenceIdeal.nD Cert.ReferenceIdeal.τ).loc Cert.ReferenceIdeal.main_v4) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_affine : Cert.Pre_finite_affine.Facts),
    quiescent_Kernel (hKernel := hKernel)
    ∧ quiescent_KernelIdeal (hKernelIdeal := hKernelIdeal)
    ∧ quiescent_KernelIdeal_pre_finite_affine (hKernelIdeal := hKernelIdeal) (hPre_finite_affine := hPre_finite_affine)
    ∧ quiescent_ReferenceIdeal (hReferenceIdeal := hReferenceIdeal)
    ∧ quiescent_ReferenceIdeal_pre_finite_affine (hReferenceIdeal := hReferenceIdeal) (hPre_finite_affine := hPre_finite_affine)
    ∧ preserves_Kernel_KernelIdeal
    ∧ algebraic_KernelIdeal_ReferenceIdeal_pre_finite_affine (hKernelIdeal := hKernelIdeal) (hReferenceIdeal := hReferenceIdeal) (hPre_finite_affine := hPre_finite_affine)
-- ==== Pre_finite_affine.lean ====
abbrev S23x2048x1664 : Shape := ⟨3, ![23, 2048, 1664]⟩
abbrev S1664 : Shape := ⟨1, ![1664]⟩
abbrev S_ : Shape := ⟨0, ![]⟩

class Facts : Prop where
  bitsLt_bf16_f32 : FTy.bits .bf16 < FTy.bits .f32
  bcast_S_S1664 : S_.BroadcastsInDim S1664 (![] : Fin 0 → Fin S1664.rank)
  reducesTo_S1664_S_d0 : S1664.ReducesTo [0] S_
  h_S_ : 0 < S_.numel

variable [Facts]

def fn {F : FTy → Type} [FloatOps F] (main_arg0 : FVec F S23x2048x1664 .bf16) (main_arg1 : FVec F S1664 .bf16) (main_arg2 : FVec F S1664 .bf16) : IVec S_ 1 :=
  let main_v0 : FVec F S1664 .f32 := (extf .f32 · bitsLt_bf16_f32) main_arg1
  let main_v1 : FVec F S1664 .f32 := Host.absf main_v0
  let main_cst : FVec F S_ .f32 := constant S_ .f32 0x7F7F0000#32
  let main_v2 : FVec F S1664 .f32 := broadcastInDim S1664 ![] bcast_S_S1664 main_cst
  let main_v3 : IVec S1664 1 := cmpf .ole main_v1 main_v2
  let main_c : IVec S_ 1 := constantI S_ 1 1#1
  let main_v4 : IVec S_ 1 := (fun x v => Host.reduce IntOp.andi x v reducesTo_S1664_S_d0 h_S_) main_v3 main_c
  let main_v5 : FVec F S1664 .f32 := (extf .f32 · bitsLt_bf16_f32) main_arg2
  let main_v6 : FVec F S1664 .f32 := Host.absf main_v5
  let main_cst_0 : FVec F S_ .f32 := constant S_ .f32 0x7F7F0000#32
  let main_v7 : FVec F S1664 .f32 := broadcastInDim S1664 ![] bcast_S_S1664 main_cst_0
  let main_v8 : IVec S1664 1 := cmpf .ole main_v6 main_v7
  let main_c_1 : IVec S_ 1 := constantI S_ 1 1#1
  let main_v9 : IVec S_ 1 := (fun x v => Host.reduce IntOp.andi x v reducesTo_S1664_S_d0 h_S_) main_v8 main_c_1
  let main_v10 : IVec S_ 1 := andi main_v4 main_v9
  main_v10
-- ==== Kernel.lean ====
abbrev S23x2048x1664 : Shape := ⟨3, ![23, 2048, 1664]⟩
abbrev S1664 : Shape := ⟨1, ![1664]⟩
abbrev S1x1664 : Shape := ⟨2, ![1, 1664]⟩
abbrev S_ : Shape := ⟨0, ![]⟩
abbrev S16 : Shape := ⟨1, ![16]⟩
abbrev S16x1 : Shape := ⟨2, ![16, 1]⟩
abbrev S16x1664 : Shape := ⟨2, ![16, 1664]⟩
abbrev S47104x1664 : Shape := ⟨2, ![47104, 1664]⟩
abbrev S13x47104 : Shape := ⟨2, ![13, 47104]⟩
abbrev S1664x47104 : Shape := ⟨2, ![1664, 47104]⟩
abbrev S368x1664 : Shape := ⟨2, ![368, 1664]⟩
abbrev S368x128 : Shape := ⟨2, ![368, 128]⟩
abbrev S1024x1664 : Shape := ⟨2, ![1024, 1664]⟩
abbrev S13x1024 : Shape := ⟨2, ![13, 1024]⟩
abbrev S1664x1024 : Shape := ⟨2, ![1664, 1024]⟩
abbrev S8x1664 : Shape := ⟨2, ![8, 1664]⟩
abbrev S8x128 : Shape := ⟨2, ![8, 128]⟩
abbrev S128x1664 : Shape := ⟨2, ![128, 1664]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S16x128 : Shape := ⟨2, ![16, 128]⟩
abbrev S13x128 : Shape := ⟨2, ![13, 128]⟩
abbrev S1664x128 : Shape := ⟨2, ![1664, 128]⟩
abbrev S47104x13 : Shape := ⟨2, ![47104, 13]⟩
abbrev S1664x368 : Shape := ⟨2, ![1664, 368]⟩
abbrev S47104 : Shape := ⟨1, ![47104]⟩

abbrev nBuf : Space → Nat
  | .hbm => 44
  | .vmem => 19
  | .smem => 0
  | _ => 0

abbrev bufTy : (tb : Table) → Fin (tcTables nBuf tb) → BufTy
  | .hbm, ⟨0, _⟩ => ⟨S23x2048x1664, .bf16⟩
  | .hbm, ⟨1, _⟩ => ⟨S1664, .bf16⟩
  | .hbm, ⟨2, _⟩ => ⟨S1664, .bf16⟩
  | .hbm, ⟨3, _⟩ => ⟨S1664, .i32⟩
  | .hbm, ⟨4, _⟩ => ⟨S1x1664, .i32⟩
  | .hbm, ⟨5, _⟩ => ⟨S_, .i32⟩
  | .hbm, ⟨6, _⟩ => ⟨S_, .i32⟩
  | .hbm, ⟨7, _⟩ => ⟨S1x1664, .i32⟩
  | .hbm, ⟨8, _⟩ => ⟨S1x1664, .i32⟩
  | .hbm, ⟨9, _⟩ => ⟨S1x1664, .i32⟩
  | .hbm, ⟨10, _⟩ => ⟨S_, .i32⟩
  | .hbm, ⟨11, _⟩ => ⟨S1x1664, .i32⟩
  | .hbm, ⟨12, _⟩ => ⟨S1x1664, .i1⟩
  | .hbm, ⟨13, _⟩ => ⟨S1x1664, .i32⟩
  | .hbm, ⟨14, _⟩ => ⟨S1x1664, .i32⟩
  | .hbm, ⟨15, _⟩ => ⟨S_, .i32⟩
  | .hbm, ⟨16, _⟩ => ⟨S1x1664, .i32⟩
  | .hbm, ⟨17, _⟩ => ⟨S1x1664, .i1⟩
  | .hbm, ⟨18, _⟩ => ⟨S1x1664, .i1⟩
  | .hbm, ⟨19, _⟩ => ⟨S_, .i32⟩
  | .hbm, ⟨20, _⟩ => ⟨S1x1664, .i32⟩
  | .hbm, ⟨21, _⟩ => ⟨S1x1664, .i32⟩
  | .hbm, ⟨22, _⟩ => ⟨S1x1664, .i32⟩
  | .hbm, ⟨23, _⟩ => ⟨S16, .i32⟩
  | .hbm, ⟨24, _⟩ => ⟨S16x1, .i32⟩
  | .hbm, ⟨25, _⟩ => ⟨S16x1664, .i32⟩
  | .hbm, ⟨26, _⟩ => ⟨S16x1664, .i32⟩
  | .hbm, ⟨27, _⟩ => ⟨S16x1664, .i1⟩
  | .hbm, ⟨28, _⟩ => ⟨S16x1664, .bf16⟩
  | .hbm, ⟨29, _⟩ => ⟨S47104x1664, .bf16⟩
  | .hbm, ⟨30, _⟩ => ⟨S1664, .f32⟩
  | .hbm, ⟨31, _⟩ => ⟨S1x1664, .f32⟩
  | .hbm, ⟨32, _⟩ => ⟨S1664, .f32⟩
  | .hbm, ⟨33, _⟩ => ⟨S1x1664, .f32⟩
  | .hbm, ⟨34, _⟩ => ⟨S47104x1664, .fp8e4m3⟩
  | .hbm, ⟨35, _⟩ => ⟨S13x47104, .f32⟩
  | .hbm, ⟨36, _⟩ => ⟨S1664x47104, .fp8e4m3⟩
  | .hbm, ⟨37, _⟩ => ⟨S368x1664, .f32⟩
  | .hbm, ⟨38, _⟩ => ⟨S368x128, .f32⟩
  | .hbm, ⟨39, _⟩ => ⟨S368x128, .f32⟩
  | .hbm, ⟨40, _⟩ => ⟨S47104x13, .f32⟩
  | .hbm, ⟨41, _⟩ => ⟨S1664x368, .f32⟩
  | .hbm, ⟨42, _⟩ => ⟨S47104, .f32⟩
  | .hbm, ⟨43, _⟩ => ⟨S47104, .f32⟩
  | .local _ .vmem, ⟨0, _⟩ => ⟨S1024x1664, .bf16⟩
  | .local _ .vmem, ⟨1, _⟩ => ⟨S1024x1664, .bf16⟩
  | .local _ .vmem, ⟨2, _⟩ => ⟨S1x1664, .f32⟩
  | .local _ .vmem, ⟨3, _⟩ => ⟨S1x1664, .f32⟩
  | .local _ .vmem, ⟨4, _⟩ => ⟨S16x1664, .bf16⟩
  | .local _ .vmem, ⟨5, _⟩ => ⟨S1024x1664, .fp8e4m3⟩
  | .local _ .vmem, ⟨6, _⟩ => ⟨S1024x1664, .fp8e4m3⟩
  | .local _ .vmem, ⟨7, _⟩ => ⟨S13x1024, .f32⟩
  | .local _ .vmem, ⟨8, _⟩ => ⟨S13x1024, .f32⟩
  | .local _ .vmem, ⟨9, _⟩ => ⟨S1664x1024, .fp8e4m3⟩
  | .local _ .vmem, ⟨10, _⟩ => ⟨S1664x1024, .fp8e4m3⟩
  | .local _ .vmem, ⟨11, _⟩ => ⟨S8x1664, .f32⟩
  | .local _ .vmem, ⟨12, _⟩ => ⟨S8x1664, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S128x1664, .f32⟩
  | .local _ .vmem, ⟨18, _⟩ => ⟨S128x128, .f32⟩
  | _, _ => ⟨S23x2048x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14_0 : Ref sig .tc := ⟨.hbm, 34, rfl⟩
abbrev main_v14_1 : Ref sig .tc := ⟨.hbm, 35, rfl⟩
abbrev main_v14_2 : Ref sig .tc := ⟨.hbm, 36, rfl⟩
abbrev main_v14_3 : Ref sig .tc := ⟨.hbm, 37, rfl⟩
abbrev main_v14_4 : Ref sig .tc := ⟨.hbm, 38, rfl⟩
abbrev main_v14_5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![46], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v1 : BitVec 32 := Scalar.muli arg13 c128_i32
  v1
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v1 : BitVec 32 := Scalar.muli arg13 c128_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let v200 : Index := Scalar.indexCast arg13
  let c0_58 : Index := 0#32
  ![v200.toNat, 0]
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let v205 : Index := Scalar.indexCast arg13
  let c0_61 : Index := 0#32
  ![v205.toNat, 0]
def k0_off4 (k0_t1 : Fin k0_t1_loop.trips) : Fin 2 → Nat :=
  let c0_89 : Index := 0#32
  let c0_i32 : BitVec 32 := 0#32
  let c1_i32 : BitVec 32 := 1#32
  let arg13 : BitVec 32 := Scf.iv c0_i32 c1_i32 k0_t1
  let c128_i32 : BitVec 32 := 128#32
  let v1 : BitVec 32 := Scalar.muli arg13 c128_i32
  let v2 : BitVec 32 := v1
  let v291 : Index := Scalar.indexCast v2
  ![0, v291.toNat]
def k0_off5 (k0_t1 : Fin k0_t1_loop.trips) : Fin 2 → Nat :=
  let c0_100 : Index := 0#32
  let c0_i32 : BitVec 32 := 0#32
  let c1_i32 : BitVec 32 := 1#32
  let arg13 : BitVec 32 := Scf.iv c0_i32 c1_i32 k0_t1
  let c128_i32 : BitVec 32 := 128#32
  let v1 : BitVec 32 := Scalar.muli arg13 c128_i32
  let v2 : BitVec 32 := v1
  let v314 : Index := Scalar.indexCast v2
  ![0, v314.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1664 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1664 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S13x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1664x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S23x2048x1664 : Shape := ⟨3, ![23, 2048, 1664]⟩
abbrev S1664 : Shape := ⟨1, ![1664]⟩
abbrev S47104x1664 : Shape := ⟨2, ![47104, 1664]⟩
abbrev S_ : Shape := ⟨0, ![]⟩
abbrev S47104 : Shape := ⟨1, ![47104]⟩
abbrev S47104x1 : Shape := ⟨2, ![47104, 1]⟩
abbrev S1x1664 : Shape := ⟨2, ![1, 1664]⟩
abbrev S47104x13x128 : Shape := ⟨3, ![47104, 13, 128]⟩
abbrev S47104x13 : Shape := ⟨2, ![47104, 13]⟩
abbrev S13 : Shape := ⟨1, ![13]⟩
abbrev S13x1 : Shape := ⟨2, ![13, 1]⟩
abbrev S13x1664 : Shape := ⟨2, ![13, 1664]⟩
abbrev S368x128x1664 : Shape := ⟨3, ![368, 128, 1664]⟩
abbrev S368x1664 : Shape := ⟨2, ![368, 1664]⟩
abbrev S368x1x1664 : Shape := ⟨3, ![368, 1, 1664]⟩
abbrev S1664x47104 : Shape := ⟨2, ![1664, 47104]⟩
abbrev S1664x368 : Shape := ⟨2, ![1664, 368]⟩

abbrev nBuf : Space → Nat
  | .hbm => 143
  | .vmem => 0
  | .smem => 0
  | _ => 0

abbrev hbmTy0_0 (i : Nat) : BufTy := match i % 128 with
  | 0 => ⟨S23x2048x1664, .bf16⟩
  | 1 => ⟨S1664, .bf16⟩
  | 2 => ⟨S1664, .bf16⟩
  | 3 => ⟨S47104x1664, .bf16⟩
  | 4 => ⟨S47104x1664, .f32⟩
  | 5 => ⟨S_, .f32⟩
  | 6 => ⟨S47104, .f32⟩
  | 7 => ⟨S_, .f32⟩
  | 8 => ⟨S47104, .f32⟩
  | 9 => ⟨S47104, .f32⟩
  | 10 => ⟨S47104x1, .f32⟩
  | 11 => ⟨S47104x1664, .f32⟩
  | 12 => ⟨S47104x1664, .f32⟩
  | 13 => ⟨S47104x1664, .f32⟩
  | 14 => ⟨S_, .f32⟩
  | 15 => ⟨S47104, .f32⟩
  | 16 => ⟨S_, .f32⟩
  | 17 => ⟨S47104, .f32⟩
  | 18 => ⟨S47104, .f32⟩
  | 19 => ⟨S_, .f32⟩
  | 20 => ⟨S47104, .f32⟩
  | 21 => ⟨S47104, .f32⟩
  | 22 => ⟨S47104, .f32⟩
  | 23 => ⟨S47104x1, .f32⟩
  | 24 => ⟨S47104x1664, .f32⟩
  | 25 => ⟨S47104x1664, .f32⟩
  | 26 => ⟨S1664, .f32⟩
  | 27 => ⟨S1x1664, .f32⟩
  | 28 => ⟨S47104x1664, .f32⟩
  | 29 => ⟨S47104x1664, .f32⟩
  | 30 => ⟨S1664, .f32⟩
  | 31 => ⟨S1x1664, .f32⟩
  | 32 => ⟨S47104x1664, .f32⟩
  | 33 => ⟨S47104x1664, .f32⟩
  | 34 => ⟨S47104x13x128, .f32⟩
  | 35 => ⟨S47104x13x128, .f32⟩
  | 36 => ⟨S_, .f32⟩
  | 37 => ⟨S47104x13, .f32⟩
  | 38 => ⟨S_, .f32⟩
  | 39 => ⟨S47104x13, .f32⟩
  | 40 => ⟨S47104x13, .f32⟩
  | 41 => ⟨S_, .f32⟩
  | 42 => ⟨S47104x13, .f32⟩
  | 43 => ⟨S47104x13, .i1⟩
  | 44 => ⟨S47104x13, .f32⟩
  | 45 => ⟨S_, .f32⟩
  | 46 => ⟨S_, .f32⟩
  | 47 => ⟨S47104x13, .f32⟩
  | 48 => ⟨S47104x13, .f32⟩
  | 49 => ⟨S47104x13, .f32⟩
  | 50 => ⟨S_, .f32⟩
  | 51 => ⟨S47104x13, .f32⟩
  | 52 => ⟨S47104x13, .f32⟩
  | 53 => ⟨S_, .f32⟩
  | 54 => ⟨S_, .f32⟩
  | 55 => ⟨S47104x13, .f32⟩
  | 56 => ⟨S47104x13, .f32⟩
  | 57 => ⟨S_, .f32⟩
  | 58 => ⟨S47104x13, .f32⟩
  | 59 => ⟨S47104x13, .f32⟩
  | 60 => ⟨S47104x13, .f32⟩
  | 61 => ⟨S47104x13, .f32⟩
  | 62 => ⟨S1664, .i32⟩
  | 63 => ⟨S1x1664, .i32⟩
  | 64 => ⟨S_, .i32⟩
  | 65 => ⟨S_, .i32⟩
  | 66 => ⟨S1x1664, .i32⟩
  | 67 => ⟨S1x1664, .i32⟩
  | 68 => ⟨S1x1664, .i32⟩
  | 69 => ⟨S_, .i32⟩
  | 70 => ⟨S1x1664, .i32⟩
  | 71 => ⟨S1x1664, .i1⟩
  | 72 => ⟨S1x1664, .i32⟩
  | 73 => ⟨S1x1664, .i32⟩
  | 74 => ⟨S_, .i32⟩
  | 75 => ⟨S1x1664, .i32⟩
  | 76 => ⟨S1x1664, .i1⟩
  | 77 => ⟨S1x1664, .i1⟩
  | 78 => ⟨S_, .i32⟩
  | 79 => ⟨S1x1664, .i32⟩
  | 80 => ⟨S1x1664, .i32⟩
  | 81 => ⟨S1x1664, .i32⟩
  | 82 => ⟨S13, .i32⟩
  | 83 => ⟨S13x1, .i32⟩
  | 84 => ⟨S13x1664, .i32⟩
  | 85 => ⟨S13x1664, .i32⟩
  | 86 => ⟨S13x1664, .i1⟩
  | 87 => ⟨S13x1664, .bf16⟩
  | 88 => ⟨S47104x13, .bf16⟩
  | 89 => ⟨S47104x1664, .f32⟩
  | 90 => ⟨S47104x1664, .f32⟩
  | 91 => ⟨S_, .f32⟩
  | 92 => ⟨S_, .f32⟩
  | 93 => ⟨S_, .f32⟩
  | 94 => ⟨S47104x1664, .f32⟩
  | 95 => ⟨S47104x1664, .f32⟩
  | 96 => ⟨S_, .f32⟩
  | 97 => ⟨S47104x1664, .f32⟩
  | 98 => ⟨S47104x1664, .f32⟩
  | 99 => ⟨S47104x1664, .fp8e4m3⟩
  | 100 => ⟨S368x128x1664, .f32⟩
  | 101 => ⟨S368x128x1664, .f32⟩
  | 102 => ⟨S_, .f32⟩
  | 103 => ⟨S368x1664, .f32⟩
  | 104 => ⟨S_, .f32⟩
  | 105 => ⟨S368x1664, .f32⟩
  | 106 => ⟨S368x1664, .f32⟩
  | 107 => ⟨S_, .f32⟩
  | 108 => ⟨S368x1664, .f32⟩
  | 109 => ⟨S368x1664, .i1⟩
  | 110 => ⟨S368x1664, .f32⟩
  | 111 => ⟨S_, .f32⟩
  | 112 => ⟨S_, .f32⟩
  | 113 => ⟨S368x1664, .f32⟩
  | 114 => ⟨S368x1664, .f32⟩
  | 115 => ⟨S368x1664, .f32⟩
  | 116 => ⟨S_, .f32⟩
  | 117 => ⟨S368x1664, .f32⟩
  | 118 => ⟨S368x1664, .f32⟩
  | 119 => ⟨S_, .f32⟩
  | 120 => ⟨S_, .f32⟩
  | 121 => ⟨S368x1664, .f32⟩
  | 122 => ⟨S368x1664, .f32⟩
  | 123 => ⟨S_, .f32⟩
  | 124 => ⟨S368x1664, .f32⟩
  | 125 => ⟨S368x1664, .f32⟩
  | 126 => ⟨S368x1664, .f32⟩
  | 127 => ⟨S368x1664, .f32⟩
  | _ => ⟨S23x2048x1664, .bf16⟩

abbrev hbmTy0_1 (i : Nat) : BufTy := match i % 128 with
  | 0 => ⟨S368x1x1664, .f32⟩
  | 1 => ⟨S368x128x1664, .f32⟩
  | 2 => ⟨S368x128x1664, .f32⟩
  | 3 => ⟨S_, .f32⟩
  | 4 => ⟨S_, .f32⟩
  | 5 => ⟨S_, .f32⟩
  | 6 => ⟨S368x128x1664, .f32⟩
  | 7 => ⟨S368x128x1664, .f32⟩
  | 8 => ⟨S_, .f32⟩
  | 9 => ⟨S368x128x1664, .f32⟩
  | 10 => ⟨S368x128x1664, .f32⟩
  | 11 => ⟨S368x128x1664, .fp8e4m3⟩
  | 12 => ⟨S47104x1664, .fp8e4m3⟩
  | 13 => ⟨S1664x47104, .fp8e4m3⟩
  | 14 => ⟨S1664x368, .f32⟩
  | _ => ⟨S23x2048x1664, .bf16⟩

abbrev hbmTy (i : Nat) : BufTy := match i / 128 with
  | 0 => hbmTy0_0 i
  | 1 => hbmTy0_1 i
  | _ => ⟨S23x2048x1664, .bf16⟩

abbrev bufTy : (tb : Table) → Fin (tcTables nBuf tb) → BufTy
  | .hbm, ⟨i, _⟩ => hbmTy i
  | _, _ => ⟨S23x2048x1664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_call0_v0 : Ref sig .tc := ⟨.hbm, 54, rfl⟩
abbrev main_call0_v1 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_c : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_0 : Ref sig .tc := ⟨.hbm, 78, rfl⟩
abbrev main_call1_v12 : Ref sig .tc := ⟨.hbm, 79, rfl⟩
abbrev main_call1_v13 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_11 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_13 : Ref sig .tc := ⟨.hbm, 102, rfl⟩
abbrev main_v61 : Ref sig .tc := ⟨.hbm, 103, rfl⟩
abbrev main_cst_14 : Ref sig .tc := ⟨.hbm, 104, rfl⟩
abbrev main_v62 : Ref sig .tc := ⟨.hbm, 105, rfl⟩
abbrev main_v63 : Ref sig .tc := ⟨.hbm, 106, rfl⟩
abbrev main_cst_15 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_16 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_cst_17 : Ref sig .tc := ⟨.hbm, 116, rfl⟩
abbrev main_v71 : Ref sig .tc := ⟨.hbm, 117, rfl⟩
abbrev main_v72 : Ref sig .tc := ⟨.hbm, 118, rfl⟩
abbrev main_cst_18 : Ref sig .tc := ⟨.hbm, 119, rfl⟩
abbrev main_call3_v0 : Ref sig .tc := ⟨.hbm, 120, rfl⟩
abbrev main_call3_v1 : Ref sig .tc := ⟨.hbm, 121, rfl⟩
abbrev main_v73 : Ref sig .tc := ⟨.hbm, 122, rfl⟩
abbrev main_cst_19 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_20 : Ref sig .tc := ⟨.hbm, 131, rfl⟩
abbrev main_cst_21 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩

abbrev nD : Nat := 1
abbrev τ : Topo := Topo.v7x

variable {F : FTy → Type} [FloatOps F]
-- ==== Proof.KTrip.lean ====
module

public import proofs.«01_k».proof.Proof.Gen.Kernel.Frame
public import proofs.«01_k».proof.Proof.Gen.Kernel.Loops
public import proofs.«01_k».proof.Proof.Gen.Kernel.Points
public import Idealize.ShloMosaic.Lib.Pipeline.FrameBody
public import Idealize.ShloMosaic.Lib.Tactic

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Trip (c : Dev nD) (arg1 : Memref sig .tc .vmem S1024x1664 .bf16) (arg2 : Memref sig .tc .vmem S1x1664 .f32) (arg3 : Memref sig .tc .vmem S1x1664 .f32) (arg4 : Memref sig .tc .vmem S16x1664 .bf16) (arg5 : Memref sig .tc .vmem S1024x1664 .fp8e4m3) (arg6 : Memref sig .tc .vmem S13x1024 .f32) (arg7 : Memref sig .tc .vmem S1664x1024 .fp8e4m3) (arg8 : Memref sig .tc .vmem S8x1664 .f32) (arg9 : Memref sig .tc .vmem S8x128 .f32) (arg10 : Memref sig .tc .vmem S8x128 .f32) (arg11 : Memref sig .tc .vmem S128x1664 .f32) (arg12 : Memref sig .tc .vmem S128x128 .f32)
    (X1 : Buf (Elt F) (arg1.view.loc (c : Thread nD τ))) (X2 : Buf (Elt F) (arg2.view.loc (c : Thread nD τ))) (X3 : Buf (Elt F) (arg3.view.loc (c : Thread nD τ))) (X4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) : sProp 𝕄 :=
  iprop((arg1.view.loc (c : Thread nD τ) ↦{fullShare} X1) ∗ (arg2.view.loc (c : Thread nD τ) ↦{fullShare} X2) ∗ (arg3.view.loc (c : Thread nD τ) ↦{fullShare} X3) ∗ (arg4.view.loc (c : Thread nD τ) ↦{fullShare} X4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12))

@[irreducible] def trip (𝒱 : Variants) (c : Dev nD) (bd : Option 𝒱.V) (E : Set ℕ) (i : grid0.Coords) (arg1 : Memref sig .tc .vmem S1024x1664 .bf16) (harg1 : arg1.IsWhole) (arg2 : Memref sig .tc .vmem S1x1664 .f32) (harg2 : arg2.IsWhole) (arg3 : Memref sig .tc .vmem S1x1664 .f32) (harg3 : arg3.IsWhole) (arg4 : Memref sig .tc .vmem S16x1664 .bf16) (harg4 : arg4.IsWhole) (arg5 : Memref sig .tc .vmem S1024x1664 .fp8e4m3) (harg5 : arg5.IsWhole) (arg6 : Memref sig .tc .vmem S13x1024 .f32) (harg6 : arg6.IsWhole) (arg7 : Memref sig .tc .vmem S1664x1024 .fp8e4m3) (harg7 : arg7.IsWhole) (arg8 : Memref sig .tc .vmem S8x1664 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S128x1664 .f32) (harg11 : arg11.IsWhole) (arg12 : Memref sig .tc .vmem S128x128 .f32) (harg12 : arg12.IsWhole)
    (X1 : Buf (Elt F) (arg1.view.loc (c : Thread nD τ))) (X2 : Buf (Elt F) (arg2.view.loc (c : Thread nD τ))) (X3 : Buf (Elt F) (arg3.view.loc (c : Thread nD τ))) (X4 : Buf (Elt F) (arg4.view.loc (c : Thread nD τ))) (f12 : Buf (Elt F) (arg12.view.loc (c : Thread nD τ))) (k : Fin k0_t1_loop.trips) :
    Σ' (L5 : List (View.Piece (Elt F) S1024x1664 .fp8e4m3)) (L6 : List (View.Piece (Elt F) S13x1024 .f32)) (L7 : List (View.Piece (Elt F) S1664x1024 .fp8e4m3))
      (L8 : List (View.Piece (Elt F) S8x1664 .f32)) (L9 : List (View.Piece (Elt F) S8x128 .f32)) (L10 : List (View.Piece (Elt F) S8x128 .f32))
      (L11 : List (View.Piece (Elt F) S128x1664 .f32)),
      { L12 : List (View.Piece (Elt F) S128x128 .f32) // ∀ (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))),
        Trip c arg1 arg2 arg3 arg4 arg5 arg6 arg7 arg8 arg9 arg10 arg11 arg12 X1 X2 X3 X4 f5 f6 f7 f8 f9 f10 f11 f12
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 k PUnit.unit)
          (fun _ => Trip c arg1 arg2 arg3 arg4 arg5 arg6 arg7 arg8 arg9 arg10 arg11 arg12 X1 X2 X3 X4 (arg5.view.writes (Elt F) f5 L5) (arg6.view.writes (Elt F) f6 L6) (arg7.view.writes (Elt F) f7 L7) (arg8.view.writes (Elt F) f8 L8) (arg9.view.writes (Elt F) f9 L9) (arg10.view.writes (Elt F) f10 L10) (arg11.view.writes (Elt F) f11 L11) (arg12.view.writes (Elt F) f12 L12)) } := by
  have hk : k.val < 8 := Nat.lt_of_lt_of_le k.isLt k0_t1_abs.2.1
  refine ⟨?_, ?_, ?_, ?_, ?_, ?_, ?_, ?_, fun f5 f6 f7 f8 f9 f10 f11 => ?run⟩
  case run =>
    unfold k0_t1_body
    iintro ⟨H1, H2, H3, H4, H5, H6, H7, H8, H9, H10, H11, H12⟩
    sl_exec_parts
    sl_step
    sl_close

end Cert.Kernel.Hand
-- ==== Proof.KBody.lean ====
module

public import proofs.«01_k».proof.Proof.Gen.Kernel.Frame
public import proofs.«01_k».proof.Proof.Gen.Kernel.Loops
public import proofs.«01_k».proof.Proof.Gen.Kernel.Points
public import Idealize.ShloMosaic.Lib.Pipeline.FrameBody
public import Idealize.ShloMosaic.Lib.Tactic
public import proofs.«01_k».proof.Proof.KTrip

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer owned at a reading is its points-to at some contents with that reading. -/
theorem owns_out (c : Dev nD) {sp : Space} {sh : Shape} {e : EltTy} (M : Memref sig .tc sp sh e) (h : M.IsWhole) (X : sh.Idx → Elt F e) :
    (owns (c : Thread nD τ) M fullShare X : sProp 𝕄) ⊢ iprop(∃ f, ⌜M.view.read (Elt F) f = X⌝ ∗ (M.view.loc (c : Thread nD τ) ↦{fullShare} f)) := by
  unfold owns; rw [h.set_eq_univ]
/-- And back. -/
theorem owns_in (c : Dev nD) {sp : Space} {sh : Shape} {e : EltTy} (M : Memref sig .tc sp sh e) (h : M.IsWhole) (X : sh.Idx → Elt F e) (f)
    (hf : M.view.read (Elt F) f = X) :
    (M.view.loc (c : Thread nD τ) ↦{fullShare} f) ⊢ (owns (c : Thread nD τ) M fullShare X : sProp 𝕄) := by
  unfold owns; rw [h.set_eq_univ]; iintro H; iexists f; isplitr
  · ipureintro; exact hf
  iexact H

/-- The loop's invariant for the frame: the four inputs held unchanged, every output block and both scratch buffers held at some contents. -/
def inv (c : Dev nD) (arg1 : Memref sig .tc .vmem S1024x1664 .bf16) (arg2 : Memref sig .tc .vmem S1x1664 .f32) (arg3 : Memref sig .tc .vmem S1x1664 .f32) (arg4 : Memref sig .tc .vmem S16x1664 .bf16) (arg5 : Memref sig .tc .vmem S1024x1664 .fp8e4m3) (arg6 : Memref sig .tc .vmem S13x1024 .f32) (arg7 : Memref sig .tc .vmem S1664x1024 .fp8e4m3) (arg8 : Memref sig .tc .vmem S8x1664 .f32) (arg9 : Memref sig .tc .vmem S8x128 .f32) (arg10 : Memref sig .tc .vmem S8x128 .f32) (arg11 : Memref sig .tc .vmem S128x1664 .f32) (arg12 : Memref sig .tc .vmem S128x128 .f32) (X1 : Buf (Elt F) (arg1.view.loc (c : Thread nD τ))) (X2 : Buf (Elt F) (arg2.view.loc (c : Thread nD τ))) (X3 : Buf (Elt F) (arg3.view.loc (c : Thread nD τ))) (X4 : Buf (Elt F) (arg4.view.loc (c : Thread nD τ))) (_ : ℕ) (_ : Unit) : sProp 𝕄 :=
  iprop(∃ f5 : Buf (Elt F) (arg5.view.loc (c : Thread nD τ)), ∃ f6 : Buf (Elt F) (arg6.view.loc (c : Thread nD τ)), ∃ f7 : Buf (Elt F) (arg7.view.loc (c : Thread nD τ)), ∃ f8 : Buf (Elt F) (arg8.view.loc (c : Thread nD τ)), ∃ f9 : Buf (Elt F) (arg9.view.loc (c : Thread nD τ)), ∃ f10 : Buf (Elt F) (arg10.view.loc (c : Thread nD τ)), ∃ f11 : Buf (Elt F) (arg11.view.loc (c : Thread nD τ)), ∃ f12 : Buf (Elt F) (arg12.view.loc (c : Thread nD τ)), Trip c arg1 arg2 arg3 arg4 arg5 arg6 arg7 arg8 arg9 arg10 arg11 arg12 X1 X2 X3 X4 f5 f6 f7 f8 f9 f10 f11 f12)

/-- One trip keeps the invariant. -/
theorem inv_step (c : Dev nD) (i : grid0.Coords) (arg1 : Memref sig .tc .vmem S1024x1664 .bf16) (harg1 : arg1.IsWhole) (arg2 : Memref sig .tc .vmem S1x1664 .f32) (harg2 : arg2.IsWhole) (arg3 : Memref sig .tc .vmem S1x1664 .f32) (harg3 : arg3.IsWhole) (arg4 : Memref sig .tc .vmem S16x1664 .bf16) (harg4 : arg4.IsWhole) (arg5 : Memref sig .tc .vmem S1024x1664 .fp8e4m3) (harg5 : arg5.IsWhole) (arg6 : Memref sig .tc .vmem S13x1024 .f32) (harg6 : arg6.IsWhole) (arg7 : Memref sig .tc .vmem S1664x1024 .fp8e4m3) (harg7 : arg7.IsWhole) (arg8 : Memref sig .tc .vmem S8x1664 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S128x1664 .f32) (harg11 : arg11.IsWhole) (arg12 : Memref sig .tc .vmem S128x128 .f32) (harg12 : arg12.IsWhole) (X1 : Buf (Elt F) (arg1.view.loc (c : Thread nD τ))) (X2 : Buf (Elt F) (arg2.view.loc (c : Thread nD τ))) (X3 : Buf (Elt F) (arg3.view.loc (c : Thread nD τ))) (X4 : Buf (Elt F) (arg4.view.loc (c : Thread nD τ))) (k : Fin k0_t1_loop.trips) (acc : Unit) :
    inv c arg1 arg2 arg3 arg4 arg5 arg6 arg7 arg8 arg9 arg10 arg11 arg12 X1 X2 X3 X4 k.val acc ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 k acc)
      (inv c arg1 arg2 arg3 arg4 arg5 arg6 arg7 arg8 arg9 arg10 arg11 arg12 X1 X2 X3 X4 (k.val + 1)) := by
  unfold inv
  iintro ⟨%f5, %f6, %f7, %f8, %f9, %f10, %f11, %f12, H⟩
  iapply (wp_wand_r frame (wpE (defs₀ (F := F)) Variants.none (c : Thread nD τ) none) Set.univ)
  isplitl [H]
  · iapply ((trip Variants.none c none Set.univ i arg1 harg1 arg2 harg2 arg3 harg3 arg4 harg4 arg5 harg5 arg6 harg6 arg7 harg7 arg8 harg8 arg9 harg9 arg10 harg10 arg11 harg11 arg12 harg12 X1 X2 X3 X4 f12 k).2.2.2.2.2.2.2.2 f5 f6 f7 f8 f9 f10 f11) $$ H
  iintro %_ H
  iexists _, _, _, _, _, _, _, _
  iexact H

variable (m : (ℓ : Loc nD τ sig) → Buf (Elt F) ℓ) (ρ : Dev nD → PrngReg)

/-- The windows about whose blocks nothing is said: the six results. -/
def fgt : Fin cfg0.W → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true

/-- The proof data for the frame: arrays as the region finds them, inputs left in place, results not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed (Val := Elt F) (cfg := cfg0) 4 t
    | ⟨5, _⟩ => Dat.unnamed (Val := Elt F) (cfg := cfg0) 5 t
    | ⟨6, _⟩ => Dat.unnamed (Val := Elt F) (cfg := cfg0) 6 t
    | ⟨7, _⟩ => Dat.unnamed (Val := Elt F) (cfg := cfg0) 7 t
    | ⟨8, _⟩ => Dat.unnamed (Val := Elt F) (cfg := cfg0) 8 t
    | ⟨9, _⟩ => Dat.unnamed (Val := Elt F) (cfg := cfg0) 9 t
  Φ _ := Pipeline.ΦA spec0 c
  q _ := fullShare
  owed _ := 0

/-- The arrays the pipeline starts from are those the host operations leave. -/
theorem A_eq (c : Dev nD) (w : Fin cfg0.W) : (dats m 0 c).A w = V m c (Pipeline.arrRef spec0 w) := by
  dsimp only [dats]
/-- A step leaves the input row block as it was. -/
theorem after0 (c : Dev nD) (t : Fin cfg0.N) : (dats m 0 c).after 0 t = iblk m c 0 t := by dsimp only [dats]
/-- Before a step the input row block is that of the array. -/
theorem before0 (c : Dev nD) (t : Fin cfg0.N) (d) : (dats m 0 c).before 0 t d = iblk m c 0 t :=
  before0_0_of m (dats m 0 c) (A_eq m c 0) (after0 m c) t d
/-- A step leaves the gamma block as it was. -/
theorem after1 (c : Dev nD) (t : Fin cfg0.N) : (dats m 0 c).after 1 t = iblk m c 1 t := by dsimp only [dats]
/-- Before a step the gamma block is that of the array. -/
theorem before1 (c : Dev nD) (t : Fin cfg0.N) (d) : (dats m 0 c).before 1 t d = iblk m c 1 t :=
  before0_1_of m (dats m 0 c) (A_eq m c 1) (after1 m c) t d
/-- A step leaves the beta block as it was. -/
theorem after2 (c : Dev nD) (t : Fin cfg0.N) : (dats m 0 c).after 2 t = iblk m c 2 t := by dsimp only [dats]
/-- Before a step the beta block is that of the array. -/
theorem before2 (c : Dev nD) (t : Fin cfg0.N) (d) : (dats m 0 c).before 2 t d = iblk m c 2 t :=
  before0_2_of m (dats m 0 c) (A_eq m c 2) (after2 m c) t d
/-- A step leaves the one-hot block as it was. -/
theorem after3 (c : Dev nD) (t : Fin cfg0.N) : (dats m 0 c).after 3 t = iblk m c 3 t := by dsimp only [dats]
/-- Before a step the one-hot block is that of the array. -/
theorem before3 (c : Dev nD) (t : Fin cfg0.N) (d) : (dats m 0 c).before 3 t d = iblk m c 3 t :=
  before0_3_of m (dats m 0 c) (A_eq m c 3) (after3 m c) t d

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X))

/-- The body at a point: from the inputs' blocks and any results, it ends with the inputs in place and some results. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0, after1, after2, after3]
  rw [show (dats m 0 c).Φ t.castSucc = Pipeline.ΦA spec0 c from rfl]
  unfold Pipeline.ΦA
  rw [scopedRest0_eq]
  rw [show (dats m 0 c).owesAt () t.succ = (dats m 0 c).owesAt () t.castSucc from rfl]
  simp only [before0, before1, before2, before3]
  rw [cc0_layernorm_fp8_eq_skeleton]; unfold cc0_layernorm_fp8_skel
  iintro ⟨⟨⟨⟨%s11, S11⟩, ⟨%s12, S12⟩⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave G0 := owns_out c (win0_0.stage (cfg0.slots t 0)) (hstage0_0 ((cfg0.slots t 0).cast nbuf0_0)) _ $$ H0
  icases G0 with ⟨%g0, %e0, G0⟩
  ihave G1 := owns_out c (win0_1.stage (cfg0.slots t 1)) (hstage0_1 ((cfg0.slots t 1).cast nbuf0_1)) _ $$ H1
  icases G1 with ⟨%g1, %e1, G1⟩
  ihave G2 := owns_out c (win0_2.stage (cfg0.slots t 2)) (hstage0_2 ((cfg0.slots t 2).cast nbuf0_2)) _ $$ H2
  icases G2 with ⟨%g2, %e2, G2⟩
  ihave G3 := owns_out c (win0_3.stage (cfg0.slots t 3)) (hstage0_3 ((cfg0.slots t 3).cast nbuf0_3)) _ $$ H3
  icases G3 with ⟨%g3, %e3, G3⟩
  ihave G4 := owns_out c (win0_4.stage (cfg0.slots t 4)) (hstage0_4 ((cfg0.slots t 4).cast nbuf0_4)) _ $$ H4
  icases G4 with ⟨%g4, %e4, G4⟩
  ihave G5 := owns_out c (win0_5.stage (cfg0.slots t 5)) (hstage0_5 ((cfg0.slots t 5).cast nbuf0_5)) _ $$ H5
  icases G5 with ⟨%g5, %e5, G5⟩
  ihave G6 := owns_out c (win0_6.stage (cfg0.slots t 6)) (hstage0_6 ((cfg0.slots t 6).cast nbuf0_6)) _ $$ H6
  icases G6 with ⟨%g6, %e6, G6⟩
  ihave G7 := owns_out c (win0_7.stage (cfg0.slots t 7)) (hstage0_7 ((cfg0.slots t 7).cast nbuf0_7)) _ $$ H7
  icases G7 with ⟨%g7, %e7, G7⟩
  ihave G8 := owns_out c (win0_8.stage (cfg0.slots t 8)) (hstage0_8 ((cfg0.slots t 8).cast nbuf0_8)) _ $$ H8
  icases G8 with ⟨%g8, %e8, G8⟩
  ihave G9 := owns_out c (win0_9.stage (cfg0.slots t 9)) (hstage0_9 ((cfg0.slots t 9).cast nbuf0_9)) _ $$ H9
  icases G9 with ⟨%g9, %e9, G9⟩
  iapply (Scf.wp_for_bind frame (wpE (defs₀ (F := F)) Variants.none (c : Thread nD τ) none) Set.univ k0_t1_loop.lb k0_t1_loop.ub k0_t1_loop.st k0_t1_ok _ _
    (inv c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (Memref.whole cc0_scratch0) (Memref.whole cc0_scratch1) g0 g1 g2 g3)
    (inv_step c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) g0 g1 g2 g3)) $$ [G0 G1 G2 G3 G4 G5 G6 G7 G8 G9 S11 S12]
  · unfold inv
    iexists g4, g5, g6, g7, g8, g9, s11, s12
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [S11]; · iexact S11
    iexact S12
  iintro %_ H
  unfold inv
  icases H with ⟨%f5, %f6, %f7, %f8, %f9, %f10, %f11, %f12, K0, K1, K2, K3, K4, K5, K6, K7, K8, K9, K10, K11⟩
  rw [Prog.pure_eq_ret, wp_ret]; imodintro
  isplitl [K10 K11 Hg]
  · isplitl [K10 K11]
    · isplitl [K10]
      · iexists _; iexact K10
      iexists _; iexact K11
    iexact Hg
  isplitl [HW]; · iexact HW
  isplitl [K0]
  · iapply (owns_in c (win0_0.stage (cfg0.slots t 0)) (hstage0_0 ((cfg0.slots t 0).cast nbuf0_0)) _ _ e0) $$ K0
  isplitl [K1]
  · iapply (owns_in c (win0_1.stage (cfg0.slots t 1)) (hstage0_1 ((cfg0.slots t 1).cast nbuf0_1)) _ _ e1) $$ K1
  isplitl [K2]
  · iapply (owns_in c (win0_2.stage (cfg0.slots t 2)) (hstage0_2 ((cfg0.slots t 2).cast nbuf0_2)) _ _ e2) $$ K2
  isplitl [K3]
  · iapply (owns_in c (win0_3.stage (cfg0.slots t 3)) (hstage0_3 ((cfg0.slots t 3).cast nbuf0_3)) _ _ e3) $$ K3
  isplitl [K4]
  · iexists _; iapply (owns_in c (win0_4.stage (cfg0.slots t 4)) (hstage0_4 ((cfg0.slots t 4).cast nbuf0_4)) _ _ rfl) $$ K4
  isplitl [K5]
  · iexists _; iapply (owns_in c (win0_5.stage (cfg0.slots t 5)) (hstage0_5 ((cfg0.slots t 5).cast nbuf0_5)) _ _ rfl) $$ K5
  isplitl [K6]
  · iexists _; iapply (owns_in c (win0_6.stage (cfg0.slots t 6)) (hstage0_6 ((cfg0.slots t 6).cast nbuf0_6)) _ _ rfl) $$ K6
  isplitl [K7]
  · iexists _; iapply (owns_in c (win0_7.stage (cfg0.slots t 7)) (hstage0_7 ((cfg0.slots t 7).cast nbuf0_7)) _ _ rfl) $$ K7
  isplitl [K8]
  · iexists _; iapply (owns_in c (win0_8.stage (cfg0.slots t 8)) (hstage0_8 ((cfg0.slots t 8).cast nbuf0_8)) _ _ rfl) $$ K8
  iexists _; iapply (owns_in c (win0_9.stage (cfg0.slots t 9)) (hstage0_9 ((cfg0.slots t 9).cast nbuf0_9)) _ _ rfl) $$ K9

/-- The body of the call, at one grid step, is the printed body on the step's blocks. -/
theorem defs₀_row (t : Fin cfg0.N) :
    defs₀ (F := F) .tc cfg0.body (cfg0.bodyArgs t (cfg0.slots t)) = bodyAt0 t := by
  unfold defs₀; rw [Defs.onTc_tc]

/-- Every grid step's body, run on the step's blocks, leaves them as the pipeline's data say. -/
theorem body_obligation (c : Dev nD) : Pipeline.BodyObligationLoose (dats (F := F) m 0 c) (defs₀ (F := F)) Variants.none () Set.univ fgt := fun t => by
  rw [bigSep_W0, bigSep_W0, defs₀_row]
  exact sound_body m c t

/-- The result buffers the host lines after the region write. -/
def TT : Finset (Ref sig .tc) := {main_v15, main_v16, main_v17, main_v18}

/-- The operations after the call write only buffers of the named list. -/
theorem sfx_T : ∀ ops ∈ ([hostOps1] : List (List (HloOp τ sig (Elt F)))), ∀ op ∈ ops, ∀ b : Ref sig .tc, Proc.devRef .tc b ∈ op.writes → b ∈ TT := by
  intro ops hops op hop
  simp only [List.mem_cons, List.mem_nil_iff, or_false] at hops
  rcases hops with rfl
  simp only [hostOps1, List.mem_cons, List.mem_nil_iff, or_false] at hop
  rcases hop with rfl | rfl | rfl | rfl
  all_goals
    intro b hb
    simp only [StableHlo.nullary_writes, StableHlo.unary_writes, StableHlo.binary_writes, StableHlo.ternary_writes, StableHlo.quaternary_writes, StableHlo.reshape_writes, StableHlo.binaryIndexed_writes, Finset.mem_singleton] at hb
    by_contra hne
    exact StableHlo.devRef_ne_of_ne (fun h => hne (by subst h; decide)) hb

set_option backward.isDefEq.respectTransparency.types false in
/-- THE FRAME: the program runs, its argument arrays end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget cfgs (dats m) (0 : Fin 1) launch0 defs₀ Variants.none fgt TT m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps) (hT := sfx_T)
    (hmain := hmain m Variants.none) (hA := A_eq m) (hΦ := fun _ _ => rfl) (Q' := _)
    (hQ' := fun r h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c)⟩, h.2⟩)

end Cert.Kernel.Hand
-- ==== Proof.ITrip.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameBody
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Trip (c : Dev nD) (arg1 : Memref sig .tc .vmem S1024x1664 .bf16) (arg2 : Memref sig .tc .vmem S1x1664 .f32) (arg3 : Memref sig .tc .vmem S1x1664 .f32) (arg4 : Memref sig .tc .vmem S16x1664 .bf16) (arg5 : Memref sig .tc .vmem S1024x1664 .fp8e4m3) (arg6 : Memref sig .tc .vmem S13x1024 .f32) (arg7 : Memref sig .tc .vmem S1664x1024 .fp8e4m3) (arg8 : Memref sig .tc .vmem S8x1664 .f32) (arg9 : Memref sig .tc .vmem S8x128 .f32) (arg10 : Memref sig .tc .vmem S8x128 .f32) (arg11 : Memref sig .tc .vmem S128x1664 .f32) (arg12 : Memref sig .tc .vmem S128x128 .f32)
    (X1 : Buf (Elt F) (arg1.view.loc (c : Thread nD τ))) (X2 : Buf (Elt F) (arg2.view.loc (c : Thread nD τ))) (X3 : Buf (Elt F) (arg3.view.loc (c : Thread nD τ))) (X4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) : sProp 𝕄 :=
  iprop((arg1.view.loc (c : Thread nD τ) ↦{fullShare} X1) ∗ (arg2.view.loc (c : Thread nD τ) ↦{fullShare} X2) ∗ (arg3.view.loc (c : Thread nD τ) ↦{fullShare} X3) ∗ (arg4.view.loc (c : Thread nD τ) ↦{fullShare} X4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12))

@[irreducible] def trip (𝒱 : Variants) (c : Dev nD) (bd : Option 𝒱.V) (E : Set ℕ) (i : grid0.Coords) (arg1 : Memref sig .tc .vmem S1024x1664 .bf16) (harg1 : arg1.IsWhole) (arg2 : Memref sig .tc .vmem S1x1664 .f32) (harg2 : arg2.IsWhole) (arg3 : Memref sig .tc .vmem S1x1664 .f32) (harg3 : arg3.IsWhole) (arg4 : Memref sig .tc .vmem S16x1664 .bf16) (harg4 : arg4.IsWhole) (arg5 : Memref sig .tc .vmem S1024x1664 .fp8e4m3) (harg5 : arg5.IsWhole) (arg6 : Memref sig .tc .vmem S13x1024 .f32) (harg6 : arg6.IsWhole) (arg7 : Memref sig .tc .vmem S1664x1024 .fp8e4m3) (harg7 : arg7.IsWhole) (arg8 : Memref sig .tc .vmem S8x1664 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S128x1664 .f32) (harg11 : arg11.IsWhole) (arg12 : Memref sig .tc .vmem S128x128 .f32) (harg12 : arg12.IsWhole)
    (X1 : Buf (Elt F) (arg1.view.loc (c : Thread nD τ))) (X2 : Buf (Elt F) (arg2.view.loc (c : Thread nD τ))) (X3 : Buf (Elt F) (arg3.view.loc (c : Thread nD τ))) (X4 : Buf (Elt F) (arg4.view.loc (c : Thread nD τ))) (f12 : Buf (Elt F) (arg12.view.loc (c : Thread nD τ))) (k : Fin k0_t1_loop.trips) :
    Σ' (L5 : List (View.Piece (Elt F) S1024x1664 .fp8e4m3)) (L6 : List (View.Piece (Elt F) S13x1024 .f32)) (L7 : List (View.Piece (Elt F) S1664x1024 .fp8e4m3))
      (L8 : List (View.Piece (Elt F) S8x1664 .f32)) (L9 : List (View.Piece (Elt F) S8x128 .f32)) (L10 : List (View.Piece (Elt F) S8x128 .f32))
      (L11 : List (View.Piece (Elt F) S128x1664 .f32)),
      { L12 : List (View.Piece (Elt F) S128x128 .f32) // ∀ (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))),
        Trip c arg1 arg2 arg3 arg4 arg5 arg6 arg7 arg8 arg9 arg10 arg11 arg12 X1 X2 X3 X4 f5 f6 f7 f8 f9 f10 f11 f12
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 k PUnit.unit)
          (fun _ => Trip c arg1 arg2 arg3 arg4 arg5 arg6 arg7 arg8 arg9 arg10 arg11 arg12 X1 X2 X3 X4 (arg5.view.writes (Elt F) f5 L5) (arg6.view.writes (Elt F) f6 L6) (arg7.view.writes (Elt F) f7 L7) (arg8.view.writes (Elt F) f8 L8) (arg9.view.writes (Elt F) f9 L9) (arg10.view.writes (Elt F) f10 L10) (arg11.view.writes (Elt F) f11 L11) (arg12.view.writes (Elt F) f12 L12)) } := by
  have hk : k.val < 8 := Nat.lt_of_lt_of_le k.isLt k0_t1_abs.2.1
  refine ⟨?_, ?_, ?_, ?_, ?_, ?_, ?_, ?_, fun f5 f6 f7 f8 f9 f10 f11 => ?run⟩
  case run =>
    unfold k0_t1_body
    iintro ⟨H1, H2, H3, H4, H5, H6, H7, H8, H9, H10, H11, H12⟩
    sl_exec_parts
    sl_step
    sl_close

end Cert.KernelIdeal.Hand
-- ==== Proof.Spec.lean ====
module

public import Idealize.ShloMosaic.Lib.Pointwise

@[expose] public section

set_option maxRecDepth 16384

noncomputable section

/-! The power-of-two scale of one group, at the extended reals: the kernel's (an exponent field found by
    comparisons, then two bit patterns) and the reference's (a logarithm, a floor, two powers of two), and that
    they agree on every maximum the kernel can meet. -/
namespace Cert.Spec

open Idealize.ShloMosaic

/-! ## The kernel's scale -/

/-- One step of the search: add `bit` to the field if the value is at least the power of two that field denotes. -/
def stp (v : EReal) (f bit : BitVec 32) : BitVec 32 :=
  Scalar.select (Ideal.cmp .oge v (Ideal.ofBits .f32 (IntOp.shli .vector (IntOp.addi f bit) 23#32))) (IntOp.addi f bit) f
/-- The first four steps. -/
def field4 (v : EReal) : BitVec 32 := stp v (stp v (stp v (stp v 0#32 128#32) 64#32) 32#32) 16#32
/-- The exponent field of a non-negative value. -/
def field (v : EReal) : BitVec 32 := stp v (stp v (stp v (stp v (field4 v) 8#32) 4#32) 2#32) 1#32
/-- The exponent of the scale, from the field. -/
def expo (f : BitVec 32) : BitVec 32 :=
  Scalar.select (IntOp.ori (IntOp.cmpi .eq f 0#32) (IntOp.cmpi .eq f 255#32)) 0#32 (IntOp.subi f 126#32)
/-- The value searched: the group's maximum over 448, its sign dropped. -/
def vK (a : EReal) : EReal := max (a * Ideal.ofBits .f32 0x3B124925#32) (-(a * Ideal.ofBits .f32 0x3B124925#32))
/-- The kernel's scale of a group whose largest magnitude is `a`. -/
def sK (a : EReal) : EReal := Ideal.ofBits .f32 (IntOp.shli .vector (IntOp.addi 127#32 (expo (field (vK a)))) 23#32)
/-- The word of the kernel's inverse scale. -/
def iwK (a : EReal) : BitVec 32 := IntOp.subi 127#32 (expo (field (vK a)))
/-- The kernel's inverse scale. -/
def iK (a : EReal) : EReal := Ideal.ofBits .f32 (IntOp.shli .vector (iwK a) 23#32)

/-! ## The reference's scale -/

/-- The reference's exponent. -/
def eR (a : EReal) : EReal :=
  if a * Ideal.ofBits .f32 0x3B124925#32 < Ideal.ofBits .f32 0x00800000#32 then 0
  else Ideal.liftRound Int.floor (Ideal.div (Ideal.log (a * Ideal.ofBits .f32 0x3B124925#32)) (Ideal.log (Ideal.ofBits .f32 0x40000000#32))) + 1
/-- The reference's scale. -/
def sR (a : EReal) : EReal := Ideal.pow (Ideal.ofBits .f32 0x40000000#32) (eR a)
/-- The reference's inverse scale. -/
def iR (a : EReal) : EReal := Ideal.pow (Ideal.ofBits .f32 0x40000000#32) (-(eR a))

/-! ## What the patterns denote -/

/-- The fields of the word with exponent field `n` and nothing else. -/
theorem bits_thr : ∀ n : Fin 256, ((BitVec.ofNat 32 n.val <<< 23).extractLsb' 23 8).toNat = n.val
    ∧ ((BitVec.ofNat 32 n.val <<< 23).extractLsb' 0 23).toNat = 0 ∧ ((BitVec.ofNat 32 n.val <<< 23).extractLsb' 31 1 == 1#1) = false := by
  decide +kernel

/-- The threshold of field `n`. -/
def thr (n : ℕ) : EReal := Ideal.ofBits .f32 (BitVec.ofNat 32 n <<< 23)

/-- The threshold of field `n` is the power of two `n − 127`. -/
theorem thr_eq (n : ℕ) (h1 : 1 ≤ n) (h2 : n < 255) : thr n = (((2 : ℝ) ^ ((n : ℤ) - 127) : ℝ) : EReal) := by
  obtain ⟨ha, hb, hc⟩ := bits_thr ⟨n, by omega⟩
  simp only at ha hb hc
  unfold thr Ideal.ofBits Ideal.ieee
  simp only [Nat.reduceAdd]
  rw [ha, hb, hc]
  rw [if_neg (by omega), if_neg (by omega)]
  have h2 : ((2 ^ 23 + 0 : ℕ) : ℝ) = (2 : ℝ) ^ (23 : ℤ) := by norm_num
  have h3 : (23 : ℤ) + ((n : ℤ) - (2 ^ (8 - 1) - 1) - ((23 : ℕ) : ℤ)) = (n : ℤ) - 127 := by
    rw [show ((2 : ℤ) ^ (8 - 1) - 1) = 127 from rfl, show ((23 : ℕ) : ℤ) = 23 from rfl]; omega
  rw [if_neg (by decide), one_mul, h2, ← zpow_add₀ (by norm_num : (2 : ℝ) ≠ 0), h3]

/-- The threshold of field 255 is infinity. -/
theorem thr_top : thr 255 = ⊤ := by
  obtain ⟨ha, hb, hc⟩ := bits_thr ⟨255, by omega⟩
  simp only at ha hb hc
  unfold thr Ideal.ofBits Ideal.ieee
  simp only [Nat.reduceAdd]
  rw [ha, hb, hc]; norm_num

/-- The word of 1/448, rounded. -/
theorem ofBits_c448 : Ideal.ofBits .f32 0x3B124925#32 = ((9586981 * (2 : ℝ) ^ (-32 : ℤ) : ℝ) : EReal) := by
  unfold Ideal.ofBits Ideal.ieee
  have h1 : ((0x3B124925#32).extractLsb' 23 8).toNat = 118 := by decide
  have h2 : ((0x3B124925#32).extractLsb' 0 23).toNat = 1198373 := by decide
  have h3 : ((0x3B124925#32).extractLsb' 31 1 == 1#1) = false := by decide
  simp only [Nat.reduceAdd]
  rw [h1, h2, h3]; norm_num

/-- The word of the smallest normal number. -/
theorem ofBits_tiny : Ideal.ofBits .f32 0x00800000#32 = (((2 : ℝ) ^ (-126 : ℤ) : ℝ) : EReal) := by
  have := thr_eq 1 (by omega) (by omega)
  unfold thr at this
  have h : (BitVec.ofNat 32 1 <<< 23) = 0x00800000#32 := by decide
  rw [h] at this; rw [this]; norm_num

/-- The word of two. -/
theorem ofBits_two : Ideal.ofBits .f32 0x40000000#32 = ((2 : ℝ) : EReal) := by
  have := thr_eq 128 (by omega) (by omega)
  unfold thr at this
  have h : (BitVec.ofNat 32 128 <<< 23) = 0x40000000#32 := by decide
  rw [h] at this; rw [this]; norm_num

/-! ## The search -/

/-- The field `n` is at most that of `v`. -/
def PP (v : EReal) (n : ℕ) : Prop := n = 0 ∨ (n < 256 ∧ thr n ≤ v)

/-- One step of the search keeps the largest field whose threshold the value reaches within the range left. -/
theorem stp_spec (v : EReal) (n b : ℕ) (hn : n + b < 256) (hb : 0 < b) (h0 : PP v n) (h1 : ¬ PP v (n + (b + b))) :
    ∃ n', stp v (BitVec.ofNat 32 n) (BitVec.ofNat 32 b) = BitVec.ofNat 32 n' ∧ n' ≤ n + b ∧ (n' = n ∨ n' = n + b) ∧ PP v n' ∧ ¬ PP v (n' + b) := by
  unfold stp Scalar.select Ideal.cmp IntOp.addi IntOp.shli
  have e : BitVec.ofNat 32 n + BitVec.ofNat 32 b = BitVec.ofNat 32 (n + b) := by rw [BitVec.ofNat_add]
  rw [e]
  rw [if_pos (by decide : (23#32 : BitVec 32).toNat < 32)]
  have hs : BitVec.ofNat 32 (n + b) <<< (23#32 : BitVec 32) = BitVec.ofNat 32 (n + b) <<< 23 := rfl
  rw [hs]
  by_cases h : thr (n + b) ≤ v
  · refine ⟨n + b, ?_, le_refl _, Or.inr rfl, Or.inr ⟨hn, h⟩, ?_⟩
    · unfold thr at h; simp [h]
    · rw [Nat.add_assoc]; exact h1
  · refine ⟨n, ?_, by omega, Or.inl rfl, h0, ?_⟩
    · unfold thr at h; simp [h]
    · rintro (h' | ⟨_, h'⟩)
      · omega
      · exact h h'

/-- The search ends at the largest field whose threshold the value reaches. -/
theorem field_spec (v : EReal) : ∃ n, field v = BitVec.ofNat 32 n ∧ n < 256 ∧ PP v n ∧ ¬ PP v (n + 1) := by
  unfold field field4
  obtain ⟨n1, e1, l1, -, p1, q1⟩ := stp_spec v 0 128 (by omega) (by omega) (Or.inl rfl) (by rintro (h | ⟨h, _⟩) <;> omega)
  obtain ⟨n2, e2, l2, -, p2, q2⟩ := stp_spec v n1 64 (by omega) (by omega) p1 q1
  obtain ⟨n3, e3, l3, -, p3, q3⟩ := stp_spec v n2 32 (by omega) (by omega) p2 q2
  obtain ⟨n4, e4, l4, -, p4, q4⟩ := stp_spec v n3 16 (by omega) (by omega) p3 q3
  obtain ⟨n5, e5, l5, -, p5, q5⟩ := stp_spec v n4 8 (by omega) (by omega) p4 q4
  obtain ⟨n6, e6, l6, -, p6, q6⟩ := stp_spec v n5 4 (by omega) (by omega) p5 q5
  obtain ⟨n7, e7, l7, -, p7, q7⟩ := stp_spec v n6 2 (by omega) (by omega) p6 q6
  obtain ⟨n8, e8, l8, -, p8, q8⟩ := stp_spec v n7 1 (by omega) (by omega) p7 q7
  refine ⟨n8, ?_, by omega, p8, q8⟩
  rw [show (0#32 : BitVec 32) = BitVec.ofNat 32 0 from rfl, e1, e2, e3, e4, e5, e6, e7, e8]

/-! ## The two scales agree -/

/-- The largest `v` the scale is used at lies below `2^126`. -/
def LIM : ℝ := (2 : ℝ) ^ (126 : ℤ)

/-- Field 0 gives exponent 0. -/
theorem expo_zero : expo (BitVec.ofNat 32 0) = 0#32 := by decide
/-- The words of the scale and of its inverse, from the field. -/
theorem expo_words : ∀ n : Fin 253, 1 ≤ n.val → IntOp.addi 127#32 (expo (BitVec.ofNat 32 n.val)) = BitVec.ofNat 32 (n.val + 1)
    ∧ IntOp.subi 127#32 (expo (BitVec.ofNat 32 n.val)) = BitVec.ofNat 32 (253 - n.val) := by decide

/-- A word moved 23 places up denotes its threshold. -/
theorem shl_thr (n : ℕ) : Ideal.ofBits .f32 (IntOp.shli .vector (BitVec.ofNat 32 n) 23#32) = thr n := rfl

/-- At a real magnitude whose 448th part lies below `2^126` the two scales agree, and so do the inverses: both are 1 below the smallest normal value and otherwise the power of two just above. -/
theorem scales_agree (a : ℝ) (h0 : 0 ≤ a) (hlim : a * (9586981 * (2 : ℝ) ^ (-32 : ℤ)) < LIM) :
    sK (a : EReal) = sR (a : EReal) ∧ iK (a : EReal) = iR (a : EReal) := by
  set w : ℝ := a * (9586981 * (2 : ℝ) ^ (-32 : ℤ)) with hw
  have hw0 : 0 ≤ w := by positivity
  have ev : ((a : EReal) * Ideal.ofBits .f32 0x3B124925#32) = ((w : ℝ) : EReal) := by rw [ofBits_c448, ← EReal.coe_mul]
  have evK : vK (a : EReal) = (w : EReal) := by
    unfold vK; rw [ev, ← EReal.coe_neg]; exact max_eq_left (by exact_mod_cast (by linarith : -w ≤ w))
  unfold sK iK iwK sR iR eR
  rw [ev, evK, ofBits_tiny, ofBits_two]
  obtain ⟨n, hn, hlt, hp, hq⟩ := field_spec (w : EReal)
  rw [hn]
  by_cases hz : n = 0
  · subst hz
    have hlt' : (w : EReal) < (((2 : ℝ) ^ (-126 : ℤ) : ℝ) : EReal) := by
      by_contra hc
      refine hq (Or.inr ⟨by omega, ?_⟩)
      rw [thr_eq 1 (by omega) (by omega)]
      have := not_lt.mp hc
      norm_num at this ⊢; exact this
    rw [if_pos hlt', expo_zero]
    have h1 : IntOp.addi 127#32 0#32 = BitVec.ofNat 32 127 := by decide
    have h2 : IntOp.subi 127#32 0#32 = BitVec.ofNat 32 127 := by decide
    rw [h1, h2, shl_thr, thr_eq 127 (by omega) (by omega)]
    rw [neg_zero, ← EReal.coe_zero, Ideal.pow_coe_coe]
    norm_num
  · have hp' : thr n ≤ (w : EReal) := (hp.resolve_left hz).2
    have hn255 : n < 254 := by
      by_contra hc
      have h254 : thr 254 ≤ (w : EReal) := by
        rcases (by omega : n = 254 ∨ n = 255) with h | h
        · rw [← h]; exact hp'
        · exfalso; rw [h, thr_top] at hp'; exact absurd hp' (by simp)
      rw [thr_eq 254 (by omega) (by omega), EReal.coe_le_coe_iff] at h254
      unfold LIM at hlim
      have : (2 : ℝ) ^ (126 : ℤ) ≤ (2 : ℝ) ^ (((254 : ℕ) : ℤ) - 127) := zpow_le_zpow_right₀ (by norm_num) (by norm_num)
      linarith
    have hn253 : n < 253 := by
      by_contra hc
      have h253 : thr 253 ≤ (w : EReal) := by rwa [(by omega : n = 253)] at hp'
      rw [thr_eq 253 (by omega) (by omega), EReal.coe_le_coe_iff] at h253
      unfold LIM at hlim
      norm_num at h253 hlim; linarith
    have hlo : (2 : ℝ) ^ ((n : ℤ) - 127) ≤ w := by
      rw [thr_eq n (by omega) (by omega), EReal.coe_le_coe_iff] at hp'; exact hp'
    have hhi : w < (2 : ℝ) ^ ((n : ℤ) - 126) := by
      by_contra hc
      refine hq (Or.inr ⟨by omega, ?_⟩)
      rw [thr_eq (n + 1) (by omega) (by omega), EReal.coe_le_coe_iff]
      have e : (((n + 1 : ℕ) : ℤ) - 127) = (n : ℤ) - 126 := by push_cast; ring
      rw [e]; exact not_lt.mp hc
    have hwpos : 0 < w := lt_of_lt_of_le (by positivity) hlo
    have hnlt : ¬ (w : EReal) < (((2 : ℝ) ^ (-126 : ℤ) : ℝ) : EReal) := by
      rw [not_lt, EReal.coe_le_coe_iff]
      exact le_trans (zpow_le_zpow_right₀ (by norm_num) (by omega)) hlo
    rw [if_neg hnlt]
    obtain ⟨w1, w2⟩ := expo_words ⟨n, hn253⟩ (by simp only; omega)
    simp only at w1 w2
    rw [w1, w2, shl_thr, shl_thr, thr_eq (n + 1) (by omega) (by omega), thr_eq (253 - n) (by omega) (by omega)]
    have hl2 : 0 < Real.log 2 := Real.log_pos (by norm_num)
    rw [Ideal.log_coe, Ideal.log_coe, if_neg (not_le.mpr hwpos), if_neg (by norm_num), Ideal.div_coe hl2.ne', ← EReal.coe_mul, Ideal.liftRound_coe]
    have hfl : ⌊Real.log w * (1 / Real.log 2)⌋ = (n : ℤ) - 127 := by
      rw [Int.floor_eq_iff, mul_one_div, le_div_iff₀ hl2, div_lt_iff₀ hl2]
      constructor
      · have := Real.log_le_log (by positivity) hlo
        rw [Real.log_zpow] at this; exact_mod_cast this
      · have := Real.log_lt_log hwpos hhi
        rw [Real.log_zpow] at this
        have e : (((n : ℤ) - 127 : ℤ) : ℝ) + 1 = (((n : ℤ) - 126 : ℤ) : ℝ) := by push_cast; ring
        rw [e]; exact this
    rw [hfl]
    have e1 : ((((n : ℤ) - 127 : ℤ) : ℝ) : EReal) + 1 = ((((n : ℤ) - 126 : ℤ) : ℝ) : EReal) := by
      rw [show (1 : EReal) = ((1 : ℝ) : EReal) from rfl, ← EReal.coe_add]; congr 1; push_cast; ring
    rw [e1, ← EReal.coe_neg, Ideal.pow_coe_coe, Ideal.pow_coe_coe]
    constructor
    · congr 1
      rw [show Real.rpow 2 (((n : ℤ) - 126 : ℤ) : ℝ) = (2 : ℝ) ^ ((((n : ℤ) - 126 : ℤ)) : ℝ) from rfl, Real.rpow_intCast]
      congr 1; push_cast; ring
    · congr 1
      rw [show Real.rpow 2 (-(((n : ℤ) - 126 : ℤ) : ℝ)) = (2 : ℝ) ^ (-(((n : ℤ) - 126 : ℤ) : ℝ)) from rfl, ← Int.cast_neg, Real.rpow_intCast]
      congr 1; rw [Nat.cast_sub (by omega)]; push_cast; ring

/-! ## The rows and groups -/

/-- The mean of a row of 1664 values. -/
def mean (x : Fin 1664 → EReal) : EReal := Ideal.div (∑ j, x j) (Ideal.ofBits .f32 0x44D00000#32)
/-- The reciprocal standard deviation of a row. -/
def rsig (x : Fin 1664 → EReal) : EReal :=
  Ideal.rsqrt (Ideal.div (∑ j, (x j - mean x) * (x j - mean x)) (Ideal.ofBits .f32 0x44D00000#32) + Ideal.ofBits .f32 0x3727C5AC#32)
/-- Entry `j` of the normalised row. -/
def yv (x g b : Fin 1664 → EReal) (j : Fin 1664) : EReal := (x j - mean x) * rsig x * g j + b j
/-- The largest of a family, from −∞. -/
def top {n : ℕ} (f : Fin n → EReal) : EReal := Finset.univ.fold max (Ideal.ofBits .f32 0xFF800000#32) f
/-- The largest magnitude of group `q` of a normalised row. -/
def rmax (x g b : Fin 1664 → EReal) (q : Fin 13) : EReal :=
  top fun l : Fin 128 => FloatOps.absf (F := Ideal) (φ := .f32) (yv x g b ⟨q.val * 128 + l.val, by omega⟩)
/-- The largest magnitude of column `j` over 128 normalised rows. -/
def cmax (X : Fin 128 → Fin 1664 → EReal) (g b : Fin 1664 → EReal) (j : Fin 1664) : EReal :=
  top fun r : Fin 128 => FloatOps.absf (F := Ideal) (φ := .f32) (yv (X r) g b j)
/-- The clip to the 8-bit format's range. -/
def clip (v : EReal) : EReal := min (Ideal.ofBits .f32 0x43E00000#32) (max (Ideal.ofBits .f32 0xC3E00000#32) v)

end Cert.Spec
-- ==== Proof.IPay.lean ====
module

public import proofs.«01_k».proof.Proof.Spec
public import proofs.«01_k».proof.Proof.Gen.KernelIdeal.Skeleton
public import Idealize.ShloMosaic.Lib.Pointwise

@[expose] public section

set_option maxRecDepth 16384

noncomputable section

/-! What the kernel's stored values are, at an index and at the extended reals. -/
namespace Cert.KernelIdeal.Pay

open Cert.KernelIdeal Cert.KernelIdeal.Gen Cert.Spec
open Idealize.ShloMosaic

/-- Row `r` of a slice of 128 rows. -/
abbrev row (v4 : Vec Ideal S128x1664 .bf16) (r : Fin 128) : Fin 1664 → EReal := fun j => v4 (ix2 r j)
/-- The one row of a `[1, 1664]` array. -/
abbrev row1 (v : Vec Ideal S1x1664 .f32) : Fin 1664 → EReal := fun j => v (ix2 0 j)

/-- The row means. -/
theorem p5 (v4 : Vec Ideal S128x1664 .bf16) (r : Fin 128) : k0_pay5 (F := Ideal) v4 (ix2 r 0) = mean (row v4 r) := by
  pointwise [k0_pay5, k0_pay4, mean]
/-- The rows less their means. -/
theorem p6 (v4 : Vec Ideal S128x1664 .bf16) (r : Fin 128) (j : Fin 1664) : k0_pay6 (F := Ideal) v4 (ix2 r j) = row v4 r j - mean (row v4 r) := by
  pointwise [k0_pay6, k0_pay5, k0_pay4, mean]
/-- The reciprocal deviations. -/
theorem p7 (v4 : Vec Ideal S128x1664 .bf16) (r : Fin 128) : k0_pay7 (F := Ideal) v4 (ix2 r 0) = rsig (row v4 r) := by
  pointwise [k0_pay7, k0_pay6, k0_pay5, k0_pay4, mean, rsig]
/-- The normalised rows. -/
theorem p8 (v4 : Vec Ideal S128x1664 .bf16) (v23 v27 : Vec Ideal S1x1664 .f32) (r : Fin 128) (j : Fin 1664) :
    k0_pay8 (F := Ideal) v4 v23 v27 (ix2 r j) = yv (row v4 r) (row1 v23) (row1 v27) j := by
  have h : k0_pay8 (F := Ideal) v4 v23 v27 (ix2 r j) = k0_pay6 (F := Ideal) v4 (ix2 r j) * k0_pay7 (F := Ideal) v4 (ix2 r 0) * v23 (ix2 0 j) + v27 (ix2 0 j) := by
    pointwise [k0_pay8]
  rw [h, p6, p7]; rfl
/-- The normalised rows, as stored. -/
theorem p9 (v4 : Vec Ideal S128x1664 .bf16) (v23 v27 : Vec Ideal S1x1664 .f32) (r : Fin 128) (j : Fin 1664) :
    k0_pay9 (F := Ideal) v4 v23 v27 (ix2 r j) = yv (row v4 r) (row1 v23) (row1 v27) j := by
  rw [← p8]; pointwise [k0_pay9]
/-- The magnitudes of the normalised rows. -/
theorem p10 (v4 : Vec Ideal S128x1664 .bf16) (v23 v27 : Vec Ideal S1x1664 .f32) (r : Fin 128) (j : Fin 1664) :
    k0_pay10 (F := Ideal) v4 v23 v27 (ix2 r j) = FloatOps.absf (F := Ideal) (φ := .f32) (yv (row v4 r) (row1 v23) (row1 v27) j) := by
  rw [← p8]; rfl

/-- The largest of 128 consecutive entries of row `r`, starting at `o`. -/
abbrev gm (v34 : FVec Ideal S128x1664 .f32) (r : Fin 128) (o : ℕ) (ho : o + 128 ≤ 1664) : EReal :=
  top fun l : Fin 128 => v34 (ix2 r ⟨o + l.val, by omega⟩)

/-- The largest magnitude of the first group of columns. -/
theorem p11 (v4 : Vec Ideal S128x1664 .bf16) (v23 v27 : Vec Ideal S1x1664 .f32) (r : Fin 128) :
    k0_pay11 (F := Ideal) v4 v23 v27 (ix2 r 0) = gm (k0_pay10 (F := Ideal) v4 v23 v27) r 0 (by omega) := by
  pointwise [k0_pay11, top]
/-- The largest magnitude of the second group of columns. -/
theorem p13 (v4 : Vec Ideal S128x1664 .bf16) (v23 v27 : Vec Ideal S1x1664 .f32) (r : Fin 128) :
    k0_pay13 (F := Ideal) (k0_pay12 (F := Ideal) v4 v23 v27) (ix2 r 0) = gm (k0_pay10 (F := Ideal) v4 v23 v27) r 128 (by omega) := by
  pointwise [k0_pay12, k0_pay13, top]
/-- The largest magnitude of the 128 columns from 256. -/
theorem p14 (v34 : FVec Ideal S128x1664 .f32) (r : Fin 128) : k0_pay14 (F := Ideal) v34 (ix2 r 0) = gm v34 r 256 (by omega) := by
  pointwise [k0_pay14, top]
/-- The largest magnitude of the 128 columns from 384. -/
theorem p15 (v34 : FVec Ideal S128x1664 .f32) (r : Fin 128) : k0_pay15 (F := Ideal) v34 (ix2 r 0) = gm v34 r 384 (by omega) := by
  pointwise [k0_pay15, top]
/-- The largest magnitude of the 128 columns from 512. -/
theorem p16 (v34 : FVec Ideal S128x1664 .f32) (r : Fin 128) : k0_pay16 (F := Ideal) v34 (ix2 r 0) = gm v34 r 512 (by omega) := by
  pointwise [k0_pay16, top]
/-- The largest magnitude of the 128 columns from 640. -/
theorem p17 (v34 : FVec Ideal S128x1664 .f32) (r : Fin 128) : k0_pay17 (F := Ideal) v34 (ix2 r 0) = gm v34 r 640 (by omega) := by
  pointwise [k0_pay17, top]
/-- The largest magnitude of the 128 columns from 768. -/
theorem p18 (v34 : FVec Ideal S128x1664 .f32) (r : Fin 128) : k0_pay18 (F := Ideal) v34 (ix2 r 0) = gm v34 r 768 (by omega) := by
  pointwise [k0_pay18, top]
/-- The largest magnitude of the 128 columns from 1024. -/
theorem p21 (v34 : FVec Ideal S128x1664 .f32) (r : Fin 128) : k0_pay21 (F := Ideal) v34 (ix2 r 0) = gm v34 r 1024 (by omega) := by
  pointwise [k0_pay21, top]
/-- The largest magnitude of the 128 columns from 1152. -/
theorem p22 (v34 : FVec Ideal S128x1664 .f32) (r : Fin 128) : k0_pay22 (F := Ideal) v34 (ix2 r 0) = gm v34 r 1152 (by omega) := by
  pointwise [k0_pay22, top]
/-- The largest magnitude of the 128 columns from 1280. -/
theorem p23 (v34 : FVec Ideal S128x1664 .f32) (r : Fin 128) : k0_pay23 (F := Ideal) v34 (ix2 r 0) = gm v34 r 1280 (by omega) := by
  pointwise [k0_pay23, top]
/-- The largest magnitude of the 128 columns from 1408. -/
theorem p24 (v34 : FVec Ideal S128x1664 .f32) (r : Fin 128) : k0_pay24 (F := Ideal) v34 (ix2 r 0) = gm v34 r 1408 (by omega) := by
  pointwise [k0_pay24, top]
/-- The largest magnitude of the 128 columns from 1536. -/
theorem p25 (v34 : FVec Ideal S128x1664 .f32) (r : Fin 128) : k0_pay25 (F := Ideal) v34 (ix2 r 0) = gm v34 r 1536 (by omega) := by
  pointwise [k0_pay25, top]
/-- The largest magnitude of the 128 columns from 896. -/
theorem p20 (v34 : FVec Ideal S128x1664 .f32) (r : Fin 128) : k0_pay20 (F := Ideal) (k0_pay19 (F := Ideal) v34) (ix2 r 0) = gm v34 r 896 (by omega) := by
  pointwise [k0_pay20, k0_pay19, top]
/-- The mean as stored. -/
theorem p26 (v : FVec Ideal S128x1 .f32) (r : Fin 128) : k0_pay26 (F := Ideal) v (ix2 r 0) = v (ix2 r 0) := by
  pointwise [k0_pay26]
/-- The reciprocal deviation as stored. -/
theorem p27 (v : FVec Ideal S128x1 .f32) (r : Fin 128) : k0_pay27 (F := Ideal) v (ix2 r 0) = v (ix2 r 0) := by
  pointwise [k0_pay27]

/-- The value the column search starts from. -/
theorem p28 (v34 : FVec Ideal S128x1664 .f32) (j : Fin 1664) : k0_pay28 (F := Ideal) v34 (ix2 0 j) = vK (top fun r : Fin 128 => v34 (ix2 r j)) := by
  pointwise [k0_pay28, top, vK]
  try rfl
/-- One step of the search, on a whole array. -/
def vstp {s : Shape} (v : FVec Ideal s .f32) (f : IVec s 32) (bit : BitVec 32) : IVec s 32 :=
  select (cmpf .oge v (bitcastToFloat .f32 (shli (addi f (broadcast s bit)) (broadcast s 23#32)))) (addi f (broadcast s bit)) f
/-- One step of the search, entry by entry. -/
theorem vstp_apply {s : Shape} (v : FVec Ideal s .f32) (f : IVec s 32) (bit : BitVec 32) (i : s.Idx) : vstp v f bit i = stp (v i) (f i) bit := rfl
/-- The scale's exponent from the field, on a whole array. -/
def vexpo {s : Shape} (f : IVec s 32) : IVec s 32 :=
  select (ori (cmpi .eq f (broadcast s 0#32)) (cmpi .eq f (broadcast s 255#32))) (broadcast s 0#32) (subi f (broadcast s 126#32))
/-- The exponent from the field, entry by entry. -/
theorem vexpo_apply {s : Shape} (f : IVec s 32) (i : s.Idx) : vexpo f i = expo (f i) := rfl

/-- The first steps of the search over the column maxima. -/
theorem p29v (v34 : FVec Ideal S128x1664 .f32) : k0_pay29 (F := Ideal) v34
    = vstp (k0_pay28 (F := Ideal) v34) (vstp (k0_pay28 (F := Ideal) v34) (vstp (k0_pay28 (F := Ideal) v34) (vstp (k0_pay28 (F := Ideal) v34) (broadcast S1x1664 0#32) 128#32) 64#32) 32#32) 16#32 := by
  unfold k0_pay29; generalize k0_pay28 (F := Ideal) v34 = v; rfl
/-- The last steps of the search over the column maxima, and the exponent. -/
theorem p31v (v : FVec Ideal S1x1664 .f32) (a : IVec S1x1664 32) : k0_pay31 (F := Ideal) v a (addi a (broadcast S1x1664 8#32)) 23#32
    = vexpo (vstp v (vstp v (vstp v (vstp v a 8#32) 4#32) 2#32) 1#32) := by
  unfold k0_pay31; rfl
/-- The first steps of the search over the row maxima. -/
theorem p38v (v202 : Vec Ideal S128x128 .f32) : k0_pay38 (F := Ideal) v202
    = vstp (k0_pay37 (F := Ideal) v202) (vstp (k0_pay37 (F := Ideal) v202) (vstp (k0_pay37 (F := Ideal) v202) (vstp (k0_pay37 (F := Ideal) v202) (broadcast S16x128 0#32) 128#32) 64#32) 32#32) 16#32 := by
  unfold k0_pay38; generalize k0_pay37 (F := Ideal) v202 = v; rfl
/-- The last steps of the search over the row maxima, and the exponent. -/
theorem p39v (v : FVec Ideal S16x128 .f32) (a : IVec S16x128 32) : k0_pay39 (F := Ideal) v a
    = vexpo (vstp v (vstp v (vstp v (vstp v a 8#32) 4#32) 2#32) 1#32) := by
  unfold k0_pay39; rfl

/-- The exponent of each column's scale. -/
theorem p31 (v34 : FVec Ideal S128x1664 .f32) (i : S1x1664.Idx) :
    k0_pay31 (F := Ideal) (k0_pay28 (F := Ideal) v34) (k0_pay29 (F := Ideal) v34) (k0_pay30 (F := Ideal) v34) 23#32 i = expo (field (k0_pay28 (F := Ideal) v34 i)) := by
  rw [show k0_pay30 (F := Ideal) v34 = addi (k0_pay29 (F := Ideal) v34) (broadcast S1x1664 8#32) from rfl, p31v, p29v]
  simp only [vexpo_apply, vstp_apply]; rfl
/-- The stored column scale. -/
theorem p32 (v34 : FVec Ideal S128x1664 .f32) (j : Fin 1664) :
    k0_pay32 (F := Ideal) (k0_pay28 (F := Ideal) v34) (k0_pay29 (F := Ideal) v34) (k0_pay30 (F := Ideal) v34) 23#32 (ix2 0 j) = sK (top fun r : Fin 128 => v34 (ix2 r j)) := by
  unfold sK; rw [← p28, ← p31]; rfl
/-- The column's inverse scale. -/
theorem p33 (v34 : FVec Ideal S128x1664 .f32) (j : Fin 1664) :
    k0_pay33 (F := Ideal) (k0_pay28 (F := Ideal) v34) (k0_pay29 (F := Ideal) v34) (k0_pay30 (F := Ideal) v34) 23#32 (ix2 0 j) = iK (top fun r : Fin 128 => v34 (ix2 r j)) := by
  unfold iK iwK; rw [← p28, ← p31]; rfl

/-- The transposed statistics, row 13. -/
theorem p35 (v202 : Vec Ideal S128x128 .f32) (r : Fin 128) : k0_pay35 (F := Ideal) v202 (ix2 0 r) = v202 (ix2 r 13) := by
  pointwise [k0_pay35, k0_pay34]
/-- The transposed statistics, row 14. -/
theorem p36 (v202 : Vec Ideal S128x128 .f32) (r : Fin 128) : k0_pay36 (F := Ideal) v202 (ix2 0 r) = v202 (ix2 r 14) := by
  pointwise [k0_pay36, k0_pay34]
/-- The transposed statistics over 448. -/
theorem p37 (v202 : Vec Ideal S128x128 .f32) (q : Fin 16) (r : Fin 128) : k0_pay37 (F := Ideal) v202 (ix2 q r) = vK (v202 (ix2 r ⟨q.val, by omega⟩)) := by
  pointwise [k0_pay37, k0_pay34, vK]
  try rfl
/-- The exponent of each row group's scale. -/
theorem p39 (v202 : Vec Ideal S128x128 .f32) (i : S16x128.Idx) :
    k0_pay39 (F := Ideal) (k0_pay37 (F := Ideal) v202) (k0_pay38 (F := Ideal) v202) i = expo (field (k0_pay37 (F := Ideal) v202 i)) := by
  rw [p39v, p38v]
  simp only [vexpo_apply, vstp_apply]; rfl
/-- The row scales, stored transposed. -/
theorem p40 (v202 : Vec Ideal S128x128 .f32) (q : Fin 16) (r : Fin 128) :
    k0_pay40 (F := Ideal) (k0_pay37 (F := Ideal) v202) (k0_pay38 (F := Ideal) v202) (ix2 q r) = sK (v202 (ix2 r ⟨q.val, by omega⟩)) := by
  unfold sK; rw [← p37 v202 q r, ← p39]; rfl
/-- The word of each row group's inverse scale. -/
theorem p41 (v202 : Vec Ideal S128x128 .f32) (q : Fin 16) (r : Fin 128) :
    k0_pay41 (F := Ideal) (k0_pay37 (F := Ideal) v202) (k0_pay38 (F := Ideal) v202) (ix2 q r) = iwK (v202 (ix2 r ⟨q.val, by omega⟩)) := by
  unfold iwK; rw [← p37 v202 q r, ← p39]; rfl
/-- The first 13 rows of the scales are stored. -/
theorem p1 (v : FVec Ideal S16x128 .f32) (q : Fin 13) (r : Fin 128) : k0_pay1 (F := Ideal) v (ix2 q r) = v (ix2 ⟨q.val, by omega⟩ r) := by
  pointwise [k0_pay1]
/-- The column codes. -/
theorem p3 (v199 : FVec Ideal S1x1664 .f32) (v297 : Vec Ideal S128x1664 .f32) (r : Fin 128) (j : Fin 1664) :
    k0_pay3 (F := Ideal) v199 v297 (ix2 j r) = clip (v297 (ix2 r j) * v199 (ix2 0 j)) := by
  pointwise [k0_pay3, clip]
/-- The row codes, their inverse scales spread by the one-hot product. -/
theorem p2 (v286 : IVec S16x128 32) (v294 : Vec Ideal S16x1664 .bf16) (v297 : Vec Ideal S128x1664 .f32) (r : Fin 128) (j : Fin 1664) :
    k0_pay2 (F := Ideal) v286 23#32 v294 v297 (ix2 r j) = clip (v297 (ix2 r j) * (Ideal.ofBits .f32 0x00000000#32 + ∑ q : Fin 16, Ideal.ofBits .f32 (IntOp.shli .vector (v286 (ix2 q r)) 23#32) * v294 (ix2 q j))) := by
  pointwise [k0_pay2, clip]

end Cert.KernelIdeal.Pay
-- ==== Proof.IPieces.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WritesUnit
public import Idealize.ShloMosaic.Lib.VecWindow
public import proofs.«01_k».proof.Proof.ITrip
public import proofs.«01_k».proof.Proof.IPay

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The scratch columns a trip writes: thirteen group maxima, the mean and the reciprocal deviation (newest first). -/
def cols (v4 : Vec Ideal S128x1664 .bf16) (v23 v27 : Vec Ideal S1x1664 .f32) : List (View.Piece (Elt Ideal) S128x128 .f32) :=
  [⟨Rect.unit (s := S128x128) ![0, 14] S128x1.size inb_S128x128_S128x1_0_14, k0_pay27 (F := Ideal) (k0_pay7 (F := Ideal) v4)⟩,
   ⟨Rect.unit (s := S128x128) ![0, 13] S128x1.size inb_S128x128_S128x1_0_13, k0_pay26 (F := Ideal) (k0_pay5 (F := Ideal) v4)⟩,
   ⟨Rect.unit (s := S128x128) ![0, 12] S128x1.size inb_S128x128_S128x1_0_12, k0_pay25 (F := Ideal) (k0_pay10 (F := Ideal) v4 v23 v27)⟩,
   ⟨Rect.unit (s := S128x128) ![0, 11] S128x1.size inb_S128x128_S128x1_0_11, k0_pay24 (F := Ideal) (k0_pay10 (F := Ideal) v4 v23 v27)⟩,
   ⟨Rect.unit (s := S128x128) ![0, 10] S128x1.size inb_S128x128_S128x1_0_10, k0_pay23 (F := Ideal) (k0_pay10 (F := Ideal) v4 v23 v27)⟩,
   ⟨Rect.unit (s := S128x128) ![0, 9] S128x1.size inb_S128x128_S128x1_0_9, k0_pay22 (F := Ideal) (k0_pay10 (F := Ideal) v4 v23 v27)⟩,
   ⟨Rect.unit (s := S128x128) ![0, 8] S128x1.size inb_S128x128_S128x1_0_8, k0_pay21 (F := Ideal) (k0_pay10 (F := Ideal) v4 v23 v27)⟩,
   ⟨Rect.unit (s := S128x128) ![0, 7] S128x1.size inb_S128x128_S128x1_0_7, k0_pay20 (F := Ideal) (k0_pay19 (F := Ideal) (k0_pay10 (F := Ideal) v4 v23 v27))⟩,
   ⟨Rect.unit (s := S128x128) ![0, 6] S128x1.size inb_S128x128_S128x1_0_6, k0_pay18 (F := Ideal) (k0_pay10 (F := Ideal) v4 v23 v27)⟩,
   ⟨Rect.unit (s := S128x128) ![0, 5] S128x1.size inb_S128x128_S128x1_0_5, k0_pay17 (F := Ideal) (k0_pay10 (F := Ideal) v4 v23 v27)⟩,
   ⟨Rect.unit (s := S128x128) ![0, 4] S128x1.size inb_S128x128_S128x1_0_4, k0_pay16 (F := Ideal) (k0_pay10 (F := Ideal) v4 v23 v27)⟩,
   ⟨Rect.unit (s := S128x128) ![0, 3] S128x1.size inb_S128x128_S128x1_0_3, k0_pay15 (F := Ideal) (k0_pay10 (F := Ideal) v4 v23 v27)⟩,
   ⟨Rect.unit (s := S128x128) ![0, 2] S128x1.size inb_S128x128_S128x1_0_2, k0_pay14 (F := Ideal) (k0_pay10 (F := Ideal) v4 v23 v27)⟩,
   ⟨Rect.unit (s := S128x128) ![0, 1] S128x1.size inb_S128x128_S128x1_0_1, k0_pay13 (F := Ideal) (k0_pay12 (F := Ideal) v4 v23 v27)⟩,
   ⟨Rect.unit (s := S128x128) ![0, 0] S128x1.size inb_S128x128_S128x1_0_0, k0_pay11 (F := Ideal) v4 v23 v27⟩]

/-- What a trip stores through `arg5`. -/
theorem tripL5  (𝒱 : Variants) (c : Dev nD) (bd : Option 𝒱.V) (E : Set ℕ) (i : grid0.Coords) (arg1 : Memref sig .tc .vmem S1024x1664 .bf16) (harg1 : arg1.IsWhole) (arg2 : Memref sig .tc .vmem S1x1664 .f32) (harg2 : arg2.IsWhole) (arg3 : Memref sig .tc .vmem S1x1664 .f32) (harg3 : arg3.IsWhole) (arg4 : Memref sig .tc .vmem S16x1664 .bf16) (harg4 : arg4.IsWhole) (arg5 : Memref sig .tc .vmem S1024x1664 .fp8e4m3) (harg5 : arg5.IsWhole) (arg6 : Memref sig .tc .vmem S13x1024 .f32) (harg6 : arg6.IsWhole) (arg7 : Memref sig .tc .vmem S1664x1024 .fp8e4m3) (harg7 : arg7.IsWhole) (arg8 : Memref sig .tc .vmem S8x1664 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S128x1664 .f32) (harg11 : arg11.IsWhole) (arg12 : Memref sig .tc .vmem S128x128 .f32) (harg12 : arg12.IsWhole)
    (X1 : Buf (Elt Ideal) (arg1.view.loc (c : Thread nD τ))) (X2 : Buf (Elt Ideal) (arg2.view.loc (c : Thread nD τ))) (X3 : Buf (Elt Ideal) (arg3.view.loc (c : Thread nD τ))) (X4 : Buf (Elt Ideal) (arg4.view.loc (c : Thread nD τ))) (f12 : Buf (Elt Ideal) (arg12.view.loc (c : Thread nD τ))) (k : Fin k0_t1_loop.trips) : (trip (F := Ideal) 𝒱 c bd E i arg1 harg1 arg2 harg2 arg3 harg3 arg4 harg4 arg5 harg5 arg6 harg6 arg7 harg7 arg8 harg8 arg9 harg9 arg10 harg10 arg11 harg11 arg12 harg12 X1 X2 X3 X4 f12 k).1 = [⟨Rect.unit (s := S1024x1664) (k0_off1 k) S128x1664.size (k0_off1_inb k), k0_pay2 (F := Ideal) (k0_pay41 (F := Ideal) (k0_pay37 (F := Ideal) (arg12.view.readAt (Elt Ideal) (Rect.unit (s := S128x128) ![0, 0] S128x128.size inb_S128x128_S128x128_0_0).toLoadRect (arg12.view.writes (Elt Ideal) f12 (cols (arg1.view.readAt (Elt Ideal) (Rect.unit (s := S1024x1664) (k0_off1 k) S128x1664.size (k0_off1_inb k)).toLoadRect X1) (arg2.view.readAt (Elt Ideal) (Rect.unit (s := S1x1664) ![0, 0] S1x1664.size inb_S1x1664_S1x1664_0_0).toLoadRect X2) (arg3.view.readAt (Elt Ideal) (Rect.unit (s := S1x1664) ![0, 0] S1x1664.size inb_S1x1664_S1x1664_0_0).toLoadRect X3))))) (k0_pay38 (F := Ideal) (arg12.view.readAt (Elt Ideal) (Rect.unit (s := S128x128) ![0, 0] S128x128.size inb_S128x128_S128x128_0_0).toLoadRect (arg12.view.writes (Elt Ideal) f12 (cols (arg1.view.readAt (Elt Ideal) (Rect.unit (s := S1024x1664) (k0_off1 k) S128x1664.size (k0_off1_inb k)).toLoadRect X1) (arg2.view.readAt (Elt Ideal) (Rect.unit (s := S1x1664) ![0, 0] S1x1664.size inb_S1x1664_S1x1664_0_0).toLoadRect X2) (arg3.view.readAt (Elt Ideal) (Rect.unit (s := S1x1664) ![0, 0] S1x1664.size inb_S1x1664_S1x1664_0_0).toLoadRect X3)))))) 23#32 (arg4.view.readAt (Elt Ideal) (Rect.unit (s := S16x1664) ![0, 0] S16x1664.size inb_S16x1664_S16x1664_0_0).toLoadRect X4) (arg11.view.readCov [⟨Rect.unit (s := S128x1664) ![0, 0] S128x1664.size inb_S128x1664_S128x1664_0_0, k0_pay9 (F := Ideal) (arg1.view.readAt (Elt Ideal) (Rect.unit (s := S1024x1664) (k0_off1 k) S128x1664.size (k0_off1_inb k)).toLoadRect X1) (arg2.view.readAt (Elt Ideal) (Rect.unit (s := S1x1664) ![0, 0] S1x1664.size inb_S1x1664_S1x1664_0_0).toLoadRect X2) (arg3.view.readAt (Elt Ideal) (Rect.unit (s := S1x1664) ![0, 0] S1x1664.size inb_S1x1664_S1x1664_0_0).toLoadRect X3)⟩] (Rect.unit (s := S128x1664) ![0, 0] S128x1664.size inb_S128x1664_S128x1664_0_0).toLoadRect)⟩] := by
  unfold trip; rfl

/-- What a trip stores through `arg6`. -/
theorem tripL6  (𝒱 : Variants) (c : Dev nD) (bd : Option 𝒱.V) (E : Set ℕ) (i : grid0.Coords) (arg1 : Memref sig .tc .vmem S1024x1664 .bf16) (harg1 : arg1.IsWhole) (arg2 : Memref sig .tc .vmem S1x1664 .f32) (harg2 : arg2.IsWhole) (arg3 : Memref sig .tc .vmem S1x1664 .f32) (harg3 : arg3.IsWhole) (arg4 : Memref sig .tc .vmem S16x1664 .bf16) (harg4 : arg4.IsWhole) (arg5 : Memref sig .tc .vmem S1024x1664 .fp8e4m3) (harg5 : arg5.IsWhole) (arg6 : Memref sig .tc .vmem S13x1024 .f32) (harg6 : arg6.IsWhole) (arg7 : Memref sig .tc .vmem S1664x1024 .fp8e4m3) (harg7 : arg7.IsWhole) (arg8 : Memref sig .tc .vmem S8x1664 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S128x1664 .f32) (harg11 : arg11.IsWhole) (arg12 : Memref sig .tc .vmem S128x128 .f32) (harg12 : arg12.IsWhole)
    (X1 : Buf (Elt Ideal) (arg1.view.loc (c : Thread nD τ))) (X2 : Buf (Elt Ideal) (arg2.view.loc (c : Thread nD τ))) (X3 : Buf (Elt Ideal) (arg3.view.loc (c : Thread nD τ))) (X4 : Buf (Elt Ideal) (arg4.view.loc (c : Thread nD τ))) (f12 : Buf (Elt Ideal) (arg12.view.loc (c : Thread nD τ))) (k : Fin k0_t1_loop.trips) : (trip (F := Ideal) 𝒱 c bd E i arg1 harg1 arg2 harg2 arg3 harg3 arg4 harg4 arg5 harg5 arg6 harg6 arg7 harg7 arg8 harg8 arg9 harg9 arg10 harg10 arg11 harg11 arg12 harg12 X1 X2 X3 X4 f12 k).2.1 = [⟨Rect.unit (s := S13x1024) (k0_off4 k) S13x128.size (k0_off4_inb k), k0_pay1 (F := Ideal) (k0_pay40 (F := Ideal) (k0_pay37 (F := Ideal) (arg12.view.readAt (Elt Ideal) (Rect.unit (s := S128x128) ![0, 0] S128x128.size inb_S128x128_S128x128_0_0).toLoadRect (arg12.view.writes (Elt Ideal) f12 (cols (arg1.view.readAt (Elt Ideal) (Rect.unit (s := S1024x1664) (k0_off1 k) S128x1664.size (k0_off1_inb k)).toLoadRect X1) (arg2.view.readAt (Elt Ideal) (Rect.unit (s := S1x1664) ![0, 0] S1x1664.size inb_S1x1664_S1x1664_0_0).toLoadRect X2) (arg3.view.readAt (Elt Ideal) (Rect.unit (s := S1x1664) ![0, 0] S1x1664.size inb_S1x1664_S1x1664_0_0).toLoadRect X3))))) (k0_pay38 (F := Ideal) (arg12.view.readAt (Elt Ideal) (Rect.unit (s := S128x128) ![0, 0] S128x128.size inb_S128x128_S128x128_0_0).toLoadRect (arg12.view.writes (Elt Ideal) f12 (cols (arg1.view.readAt (Elt Ideal) (Rect.unit (s := S1024x1664) (k0_off1 k) S128x1664.size (k0_off1_inb k)).toLoadRect X1) (arg2.view.readAt (Elt Ideal) (Rect.unit (s := S1x1664) ![0, 0] S1x1664.size inb_S1x1664_S1x1664_0_0).toLoadRect X2) (arg3.view.readAt (Elt Ideal) (Rect.unit (s := S1x1664) ![0, 0] S1x1664.size inb_S1x1664_S1x1664_0_0).toLoadRect X3))))))⟩] := by
  unfold trip; rfl

/-- What a trip stores through `arg7`. -/
theorem tripL7  (𝒱 : Variants) (c : Dev nD) (bd : Option 𝒱.V) (E : Set ℕ) (i : grid0.Coords) (arg1 : Memref sig .tc .vmem S1024x1664 .bf16) (harg1 : arg1.IsWhole) (arg2 : Memref sig .tc .vmem S1x1664 .f32) (harg2 : arg2.IsWhole) (arg3 : Memref sig .tc .vmem S1x1664 .f32) (harg3 : arg3.IsWhole) (arg4 : Memref sig .tc .vmem S16x1664 .bf16) (harg4 : arg4.IsWhole) (arg5 : Memref sig .tc .vmem S1024x1664 .fp8e4m3) (harg5 : arg5.IsWhole) (arg6 : Memref sig .tc .vmem S13x1024 .f32) (harg6 : arg6.IsWhole) (arg7 : Memref sig .tc .vmem S1664x1024 .fp8e4m3) (harg7 : arg7.IsWhole) (arg8 : Memref sig .tc .vmem S8x1664 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S128x1664 .f32) (harg11 : arg11.IsWhole) (arg12 : Memref sig .tc .vmem S128x128 .f32) (harg12 : arg12.IsWhole)
    (X1 : Buf (Elt Ideal) (arg1.view.loc (c : Thread nD τ))) (X2 : Buf (Elt Ideal) (arg2.view.loc (c : Thread nD τ))) (X3 : Buf (Elt Ideal) (arg3.view.loc (c : Thread nD τ))) (X4 : Buf (Elt Ideal) (arg4.view.loc (c : Thread nD τ))) (f12 : Buf (Elt Ideal) (arg12.view.loc (c : Thread nD τ))) (k : Fin k0_t1_loop.trips) : (trip (F := Ideal) 𝒱 c bd E i arg1 harg1 arg2 harg2 arg3 harg3 arg4 harg4 arg5 harg5 arg6 harg6 arg7 harg7 arg8 harg8 arg9 harg9 arg10 harg10 arg11 harg11 arg12 harg12 X1 X2 X3 X4 f12 k).2.2.1 = [⟨Rect.unit (s := S1664x1024) (k0_off5 k) S1664x128.size (k0_off5_inb k), k0_pay3 (F := Ideal) (k0_pay33 (F := Ideal) (k0_pay28 (F := Ideal) (k0_pay10 (F := Ideal) (arg1.view.readAt (Elt Ideal) (Rect.unit (s := S1024x1664) (k0_off1 k) S128x1664.size (k0_off1_inb k)).toLoadRect X1) (arg2.view.readAt (Elt Ideal) (Rect.unit (s := S1x1664) ![0, 0] S1x1664.size inb_S1x1664_S1x1664_0_0).toLoadRect X2) (arg3.view.readAt (Elt Ideal) (Rect.unit (s := S1x1664) ![0, 0] S1x1664.size inb_S1x1664_S1x1664_0_0).toLoadRect X3))) (k0_pay29 (F := Ideal) (k0_pay10 (F := Ideal) (arg1.view.readAt (Elt Ideal) (Rect.unit (s := S1024x1664) (k0_off1 k) S128x1664.size (k0_off1_inb k)).toLoadRect X1) (arg2.view.readAt (Elt Ideal) (Rect.unit (s := S1x1664) ![0, 0] S1x1664.size inb_S1x1664_S1x1664_0_0).toLoadRect X2) (arg3.view.readAt (Elt Ideal) (Rect.unit (s := S1x1664) ![0, 0] S1x1664.size inb_S1x1664_S1x1664_0_0).toLoadRect X3))) (k0_pay30 (F := Ideal) (k0_pay10 (F := Ideal) (arg1.view.readAt (Elt Ideal) (Rect.unit (s := S1024x1664) (k0_off1 k) S128x1664.size (k0_off1_inb k)).toLoadRect X1) (arg2.view.readAt (Elt Ideal) (Rect.unit (s := S1x1664) ![0, 0] S1x1664.size inb_S1x1664_S1x1664_0_0).toLoadRect X2) (arg3.view.readAt (Elt Ideal) (Rect.unit (s := S1x1664) ![0, 0] S1x1664.size inb_S1x1664_S1x1664_0_0).toLoadRect X3))) 23#32) (arg11.view.readCov [⟨Rect.unit (s := S128x1664) ![0, 0] S128x1664.size inb_S128x1664_S128x1664_0_0, k0_pay9 (F := Ideal) (arg1.view.readAt (Elt Ideal) (Rect.unit (s := S1024x1664) (k0_off1 k) S128x1664.size (k0_off1_inb k)).toLoadRect X1) (arg2.view.readAt (Elt Ideal) (Rect.unit (s := S1x1664) ![0, 0] S1x1664.size inb_S1x1664_S1x1664_0_0).toLoadRect X2) (arg3.view.readAt (Elt Ideal) (Rect.unit (s := S1x1664) ![0, 0] S1x1664.size inb_S1x1664_S1x1664_0_0).toLoadRect X3)⟩] (Rect.unit (s := S128x1664) ![0, 0] S128x1664.size inb_S128x1664_S128x1664_0_0).toLoadRect)⟩] := by
  unfold trip; rfl

/-- What a trip stores through `arg8`. -/
theorem tripL8  (𝒱 : Variants) (c : Dev nD) (bd : Option 𝒱.V) (E : Set ℕ) (i : grid0.Coords) (arg1 : Memref sig .tc .vmem S1024x1664 .bf16) (harg1 : arg1.IsWhole) (arg2 : Memref sig .tc .vmem S1x1664 .f32) (harg2 : arg2.IsWhole) (arg3 : Memref sig .tc .vmem S1x1664 .f32) (harg3 : arg3.IsWhole) (arg4 : Memref sig .tc .vmem S16x1664 .bf16) (harg4 : arg4.IsWhole) (arg5 : Memref sig .tc .vmem S1024x1664 .fp8e4m3) (harg5 : arg5.IsWhole) (arg6 : Memref sig .tc .vmem S13x1024 .f32) (harg6 : arg6.IsWhole) (arg7 : Memref sig .tc .vmem S1664x1024 .fp8e4m3) (harg7 : arg7.IsWhole) (arg8 : Memref sig .tc .vmem S8x1664 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S128x1664 .f32) (harg11 : arg11.IsWhole) (arg12 : Memref sig .tc .vmem S128x128 .f32) (harg12 : arg12.IsWhole)
    (X1 : Buf (Elt Ideal) (arg1.view.loc (c : Thread nD τ))) (X2 : Buf (Elt Ideal) (arg2.view.loc (c : Thread nD τ))) (X3 : Buf (Elt Ideal) (arg3.view.loc (c : Thread nD τ))) (X4 : Buf (Elt Ideal) (arg4.view.loc (c : Thread nD τ))) (f12 : Buf (Elt Ideal) (arg12.view.loc (c : Thread nD τ))) (k : Fin k0_t1_loop.trips) : (trip (F := Ideal) 𝒱 c bd E i arg1 harg1 arg2 harg2 arg3 harg3 arg4 harg4 arg5 harg5 arg6 harg6 arg7 harg7 arg8 harg8 arg9 harg9 arg10 harg10 arg11 harg11 arg12 harg12 X1 X2 X3 X4 f12 k).2.2.2.1 = [⟨Rect.unit (s := S8x1664) (k0_off2 k) S1x1664.size (k0_off2_inb k), k0_pay32 (F := Ideal) (k0_pay28 (F := Ideal) (k0_pay10 (F := Ideal) (arg1.view.readAt (Elt Ideal) (Rect.unit (s := S1024x1664) (k0_off1 k) S128x1664.size (k0_off1_inb k)).toLoadRect X1) (arg2.view.readAt (Elt Ideal) (Rect.unit (s := S1x1664) ![0, 0] S1x1664.size inb_S1x1664_S1x1664_0_0).toLoadRect X2) (arg3.view.readAt (Elt Ideal) (Rect.unit (s := S1x1664) ![0, 0] S1x1664.size inb_S1x1664_S1x1664_0_0).toLoadRect X3))) (k0_pay29 (F := Ideal) (k0_pay10 (F := Ideal) (arg1.view.readAt (Elt Ideal) (Rect.unit (s := S1024x1664) (k0_off1 k) S128x1664.size (k0_off1_inb k)).toLoadRect X1) (arg2.view.readAt (Elt Ideal) (Rect.unit (s := S1x1664) ![0, 0] S1x1664.size inb_S1x1664_S1x1664_0_0).toLoadRect X2) (arg3.view.readAt (Elt Ideal) (Rect.unit (s := S1x1664) ![0, 0] S1x1664.size inb_S1x1664_S1x1664_0_0).toLoadRect X3))) (k0_pay30 (F := Ideal) (k0_pay10 (F := Ideal) (arg1.view.readAt (Elt Ideal) (Rect.unit (s := S1024x1664) (k0_off1 k) S128x1664.size (k0_off1_inb k)).toLoadRect X1) (arg2.view.readAt (Elt Ideal) (Rect.unit (s := S1x1664) ![0, 0] S1x1664.size inb_S1x1664_S1x1664_0_0).toLoadRect X2) (arg3.view.readAt (Elt Ideal) (Rect.unit (s := S1x1664) ![0, 0] S1x1664.size inb_S1x1664_S1x1664_0_0).toLoadRect X3))) 23#32⟩] := by
  unfold trip; rfl

/-- What a trip stores through `arg9`. -/
theorem tripL9  (𝒱 : Variants) (c : Dev nD) (bd : Option 𝒱.V) (E : Set ℕ) (i : grid0.Coords) (arg1 : Memref sig .tc .vmem S1024x1664 .bf16) (harg1 : arg1.IsWhole) (arg2 : Memref sig .tc .vmem S1x1664 .f32) (harg2 : arg2.IsWhole) (arg3 : Memref sig .tc .vmem S1x1664 .f32) (harg3 : arg3.IsWhole) (arg4 : Memref sig .tc .vmem S16x1664 .bf16) (harg4 : arg4.IsWhole) (arg5 : Memref sig .tc .vmem S1024x1664 .fp8e4m3) (harg5 : arg5.IsWhole) (arg6 : Memref sig .tc .vmem S13x1024 .f32) (harg6 : arg6.IsWhole) (arg7 : Memref sig .tc .vmem S1664x1024 .fp8e4m3) (harg7 : arg7.IsWhole) (arg8 : Memref sig .tc .vmem S8x1664 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S128x1664 .f32) (harg11 : arg11.IsWhole) (arg12 : Memref sig .tc .vmem S128x128 .f32) (harg12 : arg12.IsWhole)
    (X1 : Buf (Elt Ideal) (arg1.view.loc (c : Thread nD τ))) (X2 : Buf (Elt Ideal) (arg2.view.loc (c : Thread nD τ))) (X3 : Buf (Elt Ideal) (arg3.view.loc (c : Thread nD τ))) (X4 : Buf (Elt Ideal) (arg4.view.loc (c : Thread nD τ))) (f12 : Buf (Elt Ideal) (arg12.view.loc (c : Thread nD τ))) (k : Fin k0_t1_loop.trips) : (trip (F := Ideal) 𝒱 c bd E i arg1 harg1 arg2 harg2 arg3 harg3 arg4 harg4 arg5 harg5 arg6 harg6 arg7 harg7 arg8 harg8 arg9 harg9 arg10 harg10 arg11 harg11 arg12 harg12 X1 X2 X3 X4 f12 k).2.2.2.2.1 = [⟨Rect.unit (s := S8x128) (k0_off3 k) S1x128.size (k0_off3_inb k), k0_pay36 (F := Ideal) (arg12.view.readAt (Elt Ideal) (Rect.unit (s := S128x128) ![0, 0] S128x128.size inb_S128x128_S128x128_0_0).toLoadRect (arg12.view.writes (Elt Ideal) f12 (cols (arg1.view.readAt (Elt Ideal) (Rect.unit (s := S1024x1664) (k0_off1 k) S128x1664.size (k0_off1_inb k)).toLoadRect X1) (arg2.view.readAt (Elt Ideal) (Rect.unit (s := S1x1664) ![0, 0] S1x1664.size inb_S1x1664_S1x1664_0_0).toLoadRect X2) (arg3.view.readAt (Elt Ideal) (Rect.unit (s := S1x1664) ![0, 0] S1x1664.size inb_S1x1664_S1x1664_0_0).toLoadRect X3))))⟩] := by
  unfold trip; rfl

/-- What a trip stores through `arg10`. -/
theorem tripL10  (𝒱 : Variants) (c : Dev nD) (bd : Option 𝒱.V) (E : Set ℕ) (i : grid0.Coords) (arg1 : Memref sig .tc .vmem S1024x1664 .bf16) (harg1 : arg1.IsWhole) (arg2 : Memref sig .tc .vmem S1x1664 .f32) (harg2 : arg2.IsWhole) (arg3 : Memref sig .tc .vmem S1x1664 .f32) (harg3 : arg3.IsWhole) (arg4 : Memref sig .tc .vmem S16x1664 .bf16) (harg4 : arg4.IsWhole) (arg5 : Memref sig .tc .vmem S1024x1664 .fp8e4m3) (harg5 : arg5.IsWhole) (arg6 : Memref sig .tc .vmem S13x1024 .f32) (harg6 : arg6.IsWhole) (arg7 : Memref sig .tc .vmem S1664x1024 .fp8e4m3) (harg7 : arg7.IsWhole) (arg8 : Memref sig .tc .vmem S8x1664 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S128x1664 .f32) (harg11 : arg11.IsWhole) (arg12 : Memref sig .tc .vmem S128x128 .f32) (harg12 : arg12.IsWhole)
    (X1 : Buf (Elt Ideal) (arg1.view.loc (c : Thread nD τ))) (X2 : Buf (Elt Ideal) (arg2.view.loc (c : Thread nD τ))) (X3 : Buf (Elt Ideal) (arg3.view.loc (c : Thread nD τ))) (X4 : Buf (Elt Ideal) (arg4.view.loc (c : Thread nD τ))) (f12 : Buf (Elt Ideal) (arg12.view.loc (c : Thread nD τ))) (k : Fin k0_t1_loop.trips) : (trip (F := Ideal) 𝒱 c bd E i arg1 harg1 arg2 harg2 arg3 harg3 arg4 harg4 arg5 harg5 arg6 harg6 arg7 harg7 arg8 harg8 arg9 harg9 arg10 harg10 arg11 harg11 arg12 harg12 X1 X2 X3 X4 f12 k).2.2.2.2.2.1 = [⟨Rect.unit (s := S8x128) (k0_off3 k) S1x128.size (k0_off3_inb k), k0_pay35 (F := Ideal) (arg12.view.readAt (Elt Ideal) (Rect.unit (s := S128x128) ![0, 0] S128x128.size inb_S128x128_S128x128_0_0).toLoadRect (arg12.view.writes (Elt Ideal) f12 (cols (arg1.view.readAt (Elt Ideal) (Rect.unit (s := S1024x1664) (k0_off1 k) S128x1664.size (k0_off1_inb k)).toLoadRect X1) (arg2.view.readAt (Elt Ideal) (Rect.unit (s := S1x1664) ![0, 0] S1x1664.size inb_S1x1664_S1x1664_0_0).toLoadRect X2) (arg3.view.readAt (Elt Ideal) (Rect.unit (s := S1x1664) ![0, 0] S1x1664.size inb_S1x1664_S1x1664_0_0).toLoadRect X3))))⟩] := by
  unfold trip; rfl

end Cert.KernelIdeal.Hand
-- ==== Proof.ICols.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WritesUnit
public import Idealize.ShloMosaic.Lib.VecWindow
public import proofs.«01_k».proof.Proof.ITrip
public import proofs.«01_k».proof.Proof.IPieces

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Spec Cert.KernelIdeal.Pay

/-! ## Offsets and reads -/

/-- The offsets number 1 at trip `k`. -/
theorem off1 : ∀ k : Fin k0_t1_loop.trips, k0_off1 k = ![k.val * 128, 0] := by decide +kernel
/-- The offsets number 2 at trip `k`. -/
theorem off2 : ∀ k : Fin k0_t1_loop.trips, k0_off2 k = ![k.val, 0] := by decide +kernel
/-- The offsets number 3 at trip `k`. -/
theorem off3 : ∀ k : Fin k0_t1_loop.trips, k0_off3 k = ![k.val, 0] := by decide +kernel
/-- The offsets number 4 at trip `k`. -/
theorem off4 : ∀ k : Fin k0_t1_loop.trips, k0_off4 k = ![0, k.val * 128] := by decide +kernel
/-- The offsets number 5 at trip `k`. -/
theorem off5 : ∀ k : Fin k0_t1_loop.trips, k0_off5 k = ![0, k.val * 128] := by decide +kernel
/-- There are eight trips. -/
theorem k_lt (k : Fin k0_t1_loop.trips) : k.val < 8 := Nat.lt_of_lt_of_le k.isLt k0_t1_abs.2.1
/-- The zero offsets. -/
theorem zeros2 : (![0, 0] : Fin 2 → ℕ) = fun _ => 0 := by decide

section Reads
variable {sg : RefSig} {κ : Kind} {sp : Space} {e : EltTy}

/-- A load of the rectangle at `off = (o₀, o₁)`, at an index, is the view read there. -/
theorem readAt_at {n0 n1 m0 m1 : ℕ} (v : View sg κ sp (⟨2, ![n0, n1]⟩ : Shape) e) (X : v.ty.Contents (Elt Ideal)) {off : Fin 2 → ℕ} (o0 o1 : ℕ)
    (inb : ∀ a, off a + (⟨2, ![m0, m1]⟩ : Shape).size a ≤ (⟨2, ![n0, n1]⟩ : Shape).size a) (h : off = ![o0, o1]) (r : Fin m0) (j : Fin m1) (hr : o0 + r.val < n0) (hj : o1 + j.val < n1) :
    v.readAt (Elt Ideal) (Rect.unit (s := ⟨2, ![n0, n1]⟩) off (⟨2, ![m0, m1]⟩ : Shape).size inb).toLoadRect X (ix2 r j)
      = v.read (Elt Ideal) X (ix2 ⟨o0 + r.val, hr⟩ ⟨o1 + j.val, hj⟩) := by
  subst h
  refine congrArg (v.read (Elt Ideal) X) (funext fun a => Fin.ext ?_)
  match a with
  | ⟨0, _⟩ => show o0 + 1 * r.val = o0 + r.val; omega
  | ⟨1, _⟩ => show o1 + 1 * j.val = o1 + j.val; omega

/-- Inside the newest piece the read is that piece's word. -/
theorem hit {n0 n1 m0 m1 : ℕ} (v : View sg κ sp (⟨2, ![n0, n1]⟩ : Shape) e) (f : v.ty.Contents (Elt Ideal)) {off : Fin 2 → ℕ} (o0 o1 : ℕ)
    (inb : ∀ a, off a + (⟨2, ![m0, m1]⟩ : Shape).size a ≤ (⟨2, ![n0, n1]⟩ : Shape).size a) (h : off = ![o0, o1])
    (w : (⟨2, ![m0, m1]⟩ : Shape).Idx → Elt Ideal e) (L) (p : Fin n0) (j : Fin n1) (r : Fin m0) (c : Fin m1) (hp : p.val = o0 + r.val) (hj : j.val = o1 + c.val) :
    v.read (Elt Ideal) (v.writes (Elt Ideal) f ((⟨Rect.unit (s := ⟨2, ![n0, n1]⟩) off (⟨2, ![m0, m1]⟩ : Shape).size inb, w⟩ : View.Piece (Elt Ideal) (⟨2, ![n0, n1]⟩ : Shape) e) :: L)) (ix2 p j) = w (ix2 r c) :=
  View.read_writes_cons_unit_of_mem v f inb w L (ix2 p j) (ix2 r c) h (fun a => match a with
    | ⟨0, _⟩ => hp
    | ⟨1, _⟩ => hj)
/-- Off the newest piece's rows the read is what was there. -/
theorem miss0 {n0 n1 m0 m1 : ℕ} (v : View sg κ sp (⟨2, ![n0, n1]⟩ : Shape) e) (f : v.ty.Contents (Elt Ideal)) {off : Fin 2 → ℕ} (o0 o1 : ℕ)
    (inb : ∀ a, off a + (⟨2, ![m0, m1]⟩ : Shape).size a ≤ (⟨2, ![n0, n1]⟩ : Shape).size a) (h : off = ![o0, o1])
    (w : (⟨2, ![m0, m1]⟩ : Shape).Idx → Elt Ideal e) (L) (p : Fin n0) (j : Fin n1) (hp : p.val < o0 ∨ o0 + m0 ≤ p.val) :
    v.read (Elt Ideal) (v.writes (Elt Ideal) f ((⟨Rect.unit (s := ⟨2, ![n0, n1]⟩) off (⟨2, ![m0, m1]⟩ : Shape).size inb, w⟩ : View.Piece (Elt Ideal) (⟨2, ![n0, n1]⟩ : Shape) e) :: L)) (ix2 p j)
      = v.read (Elt Ideal) (v.writes (Elt Ideal) f L) (ix2 p j) :=
  View.read_writes_cons_unit_of_not_mem v f inb w L (ix2 p j) h (0 : Fin 2) hp
/-- Off the newest piece's columns the read is what was there. -/
theorem miss1 {n0 n1 m0 m1 : ℕ} (v : View sg κ sp (⟨2, ![n0, n1]⟩ : Shape) e) (f : v.ty.Contents (Elt Ideal)) {off : Fin 2 → ℕ} (o0 o1 : ℕ)
    (inb : ∀ a, off a + (⟨2, ![m0, m1]⟩ : Shape).size a ≤ (⟨2, ![n0, n1]⟩ : Shape).size a) (h : off = ![o0, o1])
    (w : (⟨2, ![m0, m1]⟩ : Shape).Idx → Elt Ideal e) (L) (p : Fin n0) (j : Fin n1) (hp : j.val < o1 ∨ o1 + m1 ≤ j.val) :
    v.read (Elt Ideal) (v.writes (Elt Ideal) f ((⟨Rect.unit (s := ⟨2, ![n0, n1]⟩) off (⟨2, ![m0, m1]⟩ : Shape).size inb, w⟩ : View.Piece (Elt Ideal) (⟨2, ![n0, n1]⟩ : Shape) e) :: L)) (ix2 p j)
      = v.read (Elt Ideal) (v.writes (Elt Ideal) f L) (ix2 p j) :=
  View.read_writes_cons_unit_of_not_mem v f inb w L (ix2 p j) h (1 : Fin 2) hp

/-! ## The scratch columns, read back -/

variable (v : View sg κ sp S128x128 .f32) (f : v.ty.Contents (Elt Ideal)) (v4 : Vec Ideal S128x1664 .bf16) (v23 v27 : Vec Ideal S1x1664 .f32) (r : Fin 128)

/-- The largest magnitude over the 128 columns from `128 q` is that of group `q`. -/
theorem gm_eq (q : Fin 13) (o : ℕ) (ho : o + 128 ≤ 1664) (h : o = q.val * 128) :
    gm (k0_pay10 (F := Ideal) v4 v23 v27) r o ho = rmax (row v4 r) (row1 v23) (row1 v27) q := by
  subst h
  show top _ = top _
  congr 1; funext l
  exact p10 v4 v23 v27 r _

/-- Column 0 of the statistics is the largest magnitude of group 0. -/
theorem col0 : v.read (Elt Ideal) (v.writes (Elt Ideal) f (cols v4 v23 v27)) (ix2 r (0 : Fin 128)) = rmax (row v4 r) (row1 v23) (row1 v27) 0 := by
  unfold cols
  rw [miss1 v f 0 14 inb_S128x128_S128x1_0_14 rfl _ _ r (0 : Fin 128) (by decide)]
  rw [miss1 v f 0 13 inb_S128x128_S128x1_0_13 rfl _ _ r (0 : Fin 128) (by decide)]
  rw [miss1 v f 0 12 inb_S128x128_S128x1_0_12 rfl _ _ r (0 : Fin 128) (by decide)]
  rw [miss1 v f 0 11 inb_S128x128_S128x1_0_11 rfl _ _ r (0 : Fin 128) (by decide)]
  rw [miss1 v f 0 10 inb_S128x128_S128x1_0_10 rfl _ _ r (0 : Fin 128) (by decide)]
  rw [miss1 v f 0 9 inb_S128x128_S128x1_0_9 rfl _ _ r (0 : Fin 128) (by decide)]
  rw [miss1 v f 0 8 inb_S128x128_S128x1_0_8 rfl _ _ r (0 : Fin 128) (by decide)]
  rw [miss1 v f 0 7 inb_S128x128_S128x1_0_7 rfl _ _ r (0 : Fin 128) (by decide)]
  rw [miss1 v f 0 6 inb_S128x128_S128x1_0_6 rfl _ _ r (0 : Fin 128) (by decide)]
  rw [miss1 v f 0 5 inb_S128x128_S128x1_0_5 rfl _ _ r (0 : Fin 128) (by decide)]
  rw [miss1 v f 0 4 inb_S128x128_S128x1_0_4 rfl _ _ r (0 : Fin 128) (by decide)]
  rw [miss1 v f 0 3 inb_S128x128_S128x1_0_3 rfl _ _ r (0 : Fin 128) (by decide)]
  rw [miss1 v f 0 2 inb_S128x128_S128x1_0_2 rfl _ _ r (0 : Fin 128) (by decide)]
  rw [miss1 v f 0 1 inb_S128x128_S128x1_0_1 rfl _ _ r (0 : Fin 128) (by decide)]
  rw [hit v f 0 0 inb_S128x128_S128x1_0_0 rfl _ _ r (0 : Fin 128) r 0 (by omega) rfl]
  rw [p11]; exact gm_eq v4 v23 v27 r 0 _ _ rfl
/-- Column 1 of the statistics is the largest magnitude of group 1. -/
theorem col1 : v.read (Elt Ideal) (v.writes (Elt Ideal) f (cols v4 v23 v27)) (ix2 r (1 : Fin 128)) = rmax (row v4 r) (row1 v23) (row1 v27) 1 := by
  unfold cols
  rw [miss1 v f 0 14 inb_S128x128_S128x1_0_14 rfl _ _ r (1 : Fin 128) (by decide)]
  rw [miss1 v f 0 13 inb_S128x128_S128x1_0_13 rfl _ _ r (1 : Fin 128) (by decide)]
  rw [miss1 v f 0 12 inb_S128x128_S128x1_0_12 rfl _ _ r (1 : Fin 128) (by decide)]
  rw [miss1 v f 0 11 inb_S128x128_S128x1_0_11 rfl _ _ r (1 : Fin 128) (by decide)]
  rw [miss1 v f 0 10 inb_S128x128_S128x1_0_10 rfl _ _ r (1 : Fin 128) (by decide)]
  rw [miss1 v f 0 9 inb_S128x128_S128x1_0_9 rfl _ _ r (1 : Fin 128) (by decide)]
  rw [miss1 v f 0 8 inb_S128x128_S128x1_0_8 rfl _ _ r (1 : Fin 128) (by decide)]
  rw [miss1 v f 0 7 inb_S128x128_S128x1_0_7 rfl _ _ r (1 : Fin 128) (by decide)]
  rw [miss1 v f 0 6 inb_S128x128_S128x1_0_6 rfl _ _ r (1 : Fin 128) (by decide)]
  rw [miss1 v f 0 5 inb_S128x128_S128x1_0_5 rfl _ _ r (1 : Fin 128) (by decide)]
  rw [miss1 v f 0 4 inb_S128x128_S128x1_0_4 rfl _ _ r (1 : Fin 128) (by decide)]
  rw [miss1 v f 0 3 inb_S128x128_S128x1_0_3 rfl _ _ r (1 : Fin 128) (by decide)]
  rw [miss1 v f 0 2 inb_S128x128_S128x1_0_2 rfl _ _ r (1 : Fin 128) (by decide)]
  rw [hit v f 0 1 inb_S128x128_S128x1_0_1 rfl _ _ r (1 : Fin 128) r 0 (by omega) rfl]
  rw [p13]; exact gm_eq v4 v23 v27 r 1 _ _ rfl
/-- Column 2 of the statistics is the largest magnitude of group 2. -/
theorem col2 : v.read (Elt Ideal) (v.writes (Elt Ideal) f (cols v4 v23 v27)) (ix2 r (2 : Fin 128)) = rmax (row v4 r) (row1 v23) (row1 v27) 2 := by
  unfold cols
  rw [miss1 v f 0 14 inb_S128x128_S128x1_0_14 rfl _ _ r (2 : Fin 128) (by decide)]
  rw [miss1 v f 0 13 inb_S128x128_S128x1_0_13 rfl _ _ r (2 : Fin 128) (by decide)]
  rw [miss1 v f 0 12 inb_S128x128_S128x1_0_12 rfl _ _ r (2 : Fin 128) (by decide)]
  rw [miss1 v f 0 11 inb_S128x128_S128x1_0_11 rfl _ _ r (2 : Fin 128) (by decide)]
  rw [miss1 v f 0 10 inb_S128x128_S128x1_0_10 rfl _ _ r (2 : Fin 128) (by decide)]
  rw [miss1 v f 0 9 inb_S128x128_S128x1_0_9 rfl _ _ r (2 : Fin 128) (by decide)]
  rw [miss1 v f 0 8 inb_S128x128_S128x1_0_8 rfl _ _ r (2 : Fin 128) (by decide)]
  rw [miss1 v f 0 7 inb_S128x128_S128x1_0_7 rfl _ _ r (2 : Fin 128) (by decide)]
  rw [miss1 v f 0 6 inb_S128x128_S128x1_0_6 rfl _ _ r (2 : Fin 128) (by decide)]
  rw [miss1 v f 0 5 inb_S128x128_S128x1_0_5 rfl _ _ r (2 : Fin 128) (by decide)]
  rw [miss1 v f 0 4 inb_S128x128_S128x1_0_4 rfl _ _ r (2 : Fin 128) (by decide)]
  rw [miss1 v f 0 3 inb_S128x128_S128x1_0_3 rfl _ _ r (2 : Fin 128) (by decide)]
  rw [hit v f 0 2 inb_S128x128_S128x1_0_2 rfl _ _ r (2 : Fin 128) r 0 (by omega) rfl]
  rw [p14]; exact gm_eq v4 v23 v27 r 2 _ _ rfl
/-- Column 3 of the statistics is the largest magnitude of group 3. -/
theorem col3 : v.read (Elt Ideal) (v.writes (Elt Ideal) f (cols v4 v23 v27)) (ix2 r (3 : Fin 128)) = rmax (row v4 r) (row1 v23) (row1 v27) 3 := by
  unfold cols
  rw [miss1 v f 0 14 inb_S128x128_S128x1_0_14 rfl _ _ r (3 : Fin 128) (by decide)]
  rw [miss1 v f 0 13 inb_S128x128_S128x1_0_13 rfl _ _ r (3 : Fin 128) (by decide)]
  rw [miss1 v f 0 12 inb_S128x128_S128x1_0_12 rfl _ _ r (3 : Fin 128) (by decide)]
  rw [miss1 v f 0 11 inb_S128x128_S128x1_0_11 rfl _ _ r (3 : Fin 128) (by decide)]
  rw [miss1 v f 0 10 inb_S128x128_S128x1_0_10 rfl _ _ r (3 : Fin 128) (by decide)]
  rw [miss1 v f 0 9 inb_S128x128_S128x1_0_9 rfl _ _ r (3 : Fin 128) (by decide)]
  rw [miss1 v f 0 8 inb_S128x128_S128x1_0_8 rfl _ _ r (3 : Fin 128) (by decide)]
  rw [miss1 v f 0 7 inb_S128x128_S128x1_0_7 rfl _ _ r (3 : Fin 128) (by decide)]
  rw [miss1 v f 0 6 inb_S128x128_S128x1_0_6 rfl _ _ r (3 : Fin 128) (by decide)]
  rw [miss1 v f 0 5 inb_S128x128_S128x1_0_5 rfl _ _ r (3 : Fin 128) (by decide)]
  rw [miss1 v f 0 4 inb_S128x128_S128x1_0_4 rfl _ _ r (3 : Fin 128) (by decide)]
  rw [hit v f 0 3 inb_S128x128_S128x1_0_3 rfl _ _ r (3 : Fin 128) r 0 (by omega) rfl]
  rw [p15]; exact gm_eq v4 v23 v27 r 3 _ _ rfl
/-- Column 4 of the statistics is the largest magnitude of group 4. -/
theorem col4 : v.read (Elt Ideal) (v.writes (Elt Ideal) f (cols v4 v23 v27)) (ix2 r (4 : Fin 128)) = rmax (row v4 r) (row1 v23) (row1 v27) 4 := by
  unfold cols
  rw [miss1 v f 0 14 inb_S128x128_S128x1_0_14 rfl _ _ r (4 : Fin 128) (by decide)]
  rw [miss1 v f 0 13 inb_S128x128_S128x1_0_13 rfl _ _ r (4 : Fin 128) (by decide)]
  rw [miss1 v f 0 12 inb_S128x128_S128x1_0_12 rfl _ _ r (4 : Fin 128) (by decide)]
  rw [miss1 v f 0 11 inb_S128x128_S128x1_0_11 rfl _ _ r (4 : Fin 128) (by decide)]
  rw [miss1 v f 0 10 inb_S128x128_S128x1_0_10 rfl _ _ r (4 : Fin 128) (by decide)]
  rw [miss1 v f 0 9 inb_S128x128_S128x1_0_9 rfl _ _ r (4 : Fin 128) (by decide)]
  rw [miss1 v f 0 8 inb_S128x128_S128x1_0_8 rfl _ _ r (4 : Fin 128) (by decide)]
  rw [miss1 v f 0 7 inb_S128x128_S128x1_0_7 rfl _ _ r (4 : Fin 128) (by decide)]
  rw [miss1 v f 0 6 inb_S128x128_S128x1_0_6 rfl _ _ r (4 : Fin 128) (by decide)]
  rw [miss1 v f 0 5 inb_S128x128_S128x1_0_5 rfl _ _ r (4 : Fin 128) (by decide)]
  rw [hit v f 0 4 inb_S128x128_S128x1_0_4 rfl _ _ r (4 : Fin 128) r 0 (by omega) rfl]
  rw [p16]; exact gm_eq v4 v23 v27 r 4 _ _ rfl
/-- Column 5 of the statistics is the largest magnitude of group 5. -/
theorem col5 : v.read (Elt Ideal) (v.writes (Elt Ideal) f (cols v4 v23 v27)) (ix2 r (5 : Fin 128)) = rmax (row v4 r) (row1 v23) (row1 v27) 5 := by
  unfold cols
  rw [miss1 v f 0 14 inb_S128x128_S128x1_0_14 rfl _ _ r (5 : Fin 128) (by decide)]
  rw [miss1 v f 0 13 inb_S128x128_S128x1_0_13 rfl _ _ r (5 : Fin 128) (by decide)]
  rw [miss1 v f 0 12 inb_S128x128_S128x1_0_12 rfl _ _ r (5 : Fin 128) (by decide)]
  rw [miss1 v f 0 11 inb_S128x128_S128x1_0_11 rfl _ _ r (5 : Fin 128) (by decide)]
  rw [miss1 v f 0 10 inb_S128x128_S128x1_0_10 rfl _ _ r (5 : Fin 128) (by decide)]
  rw [miss1 v f 0 9 inb_S128x128_S128x1_0_9 rfl _ _ r (5 : Fin 128) (by decide)]
  rw [miss1 v f 0 8 inb_S128x128_S128x1_0_8 rfl _ _ r (5 : Fin 128) (by decide)]
  rw [miss1 v f 0 7 inb_S128x128_S128x1_0_7 rfl _ _ r (5 : Fin 128) (by decide)]
  rw [miss1 v f 0 6 inb_S128x128_S128x1_0_6 rfl _ _ r (5 : Fin 128) (by decide)]
  rw [hit v f 0 5 inb_S128x128_S128x1_0_5 rfl _ _ r (5 : Fin 128) r 0 (by omega) rfl]
  rw [p17]; exact gm_eq v4 v23 v27 r 5 _ _ rfl
/-- Column 6 of the statistics is the largest magnitude of group 6. -/
theorem col6 : v.read (Elt Ideal) (v.writes (Elt Ideal) f (cols v4 v23 v27)) (ix2 r (6 : Fin 128)) = rmax (row v4 r) (row1 v23) (row1 v27) 6 := by
  unfold cols
  rw [miss1 v f 0 14 inb_S128x128_S128x1_0_14 rfl _ _ r (6 : Fin 128) (by decide)]
  rw [miss1 v f 0 13 inb_S128x128_S128x1_0_13 rfl _ _ r (6 : Fin 128) (by decide)]
  rw [miss1 v f 0 12 inb_S128x128_S128x1_0_12 rfl _ _ r (6 : Fin 128) (by decide)]
  rw [miss1 v f 0 11 inb_S128x128_S128x1_0_11 rfl _ _ r (6 : Fin 128) (by decide)]
  rw [miss1 v f 0 10 inb_S128x128_S128x1_0_10 rfl _ _ r (6 : Fin 128) (by decide)]
  rw [miss1 v f 0 9 inb_S128x128_S128x1_0_9 rfl _ _ r (6 : Fin 128) (by decide)]
  rw [miss1 v f 0 8 inb_S128x128_S128x1_0_8 rfl _ _ r (6 : Fin 128) (by decide)]
  rw [miss1 v f 0 7 inb_S128x128_S128x1_0_7 rfl _ _ r (6 : Fin 128) (by decide)]
  rw [hit v f 0 6 inb_S128x128_S128x1_0_6 rfl _ _ r (6 : Fin 128) r 0 (by omega) rfl]
  rw [p18]; exact gm_eq v4 v23 v27 r 6 _ _ rfl
/-- Column 7 of the statistics is the largest magnitude of group 7. -/
theorem col7 : v.read (Elt Ideal) (v.writes (Elt Ideal) f (cols v4 v23 v27)) (ix2 r (7 : Fin 128)) = rmax (row v4 r) (row1 v23) (row1 v27) 7 := by
  unfold cols
  rw [miss1 v f 0 14 inb_S128x128_S128x1_0_14 rfl _ _ r (7 : Fin 128) (by decide)]
  rw [miss1 v f 0 13 inb_S128x128_S128x1_0_13 rfl _ _ r (7 : Fin 128) (by decide)]
  rw [miss1 v f 0 12 inb_S128x128_S128x1_0_12 rfl _ _ r (7 : Fin 128) (by decide)]
  rw [miss1 v f 0 11 inb_S128x128_S128x1_0_11 rfl _ _ r (7 : Fin 128) (by decide)]
  rw [miss1 v f 0 10 inb_S128x128_S128x1_0_10 rfl _ _ r (7 : Fin 128) (by decide)]
  rw [miss1 v f 0 9 inb_S128x128_S128x1_0_9 rfl _ _ r (7 : Fin 128) (by decide)]
  rw [miss1 v f 0 8 inb_S128x128_S128x1_0_8 rfl _ _ r (7 : Fin 128) (by decide)]
  rw [hit v f 0 7 inb_S128x128_S128x1_0_7 rfl _ _ r (7 : Fin 128) r 0 (by omega) rfl]
  rw [p20]; exact gm_eq v4 v23 v27 r 7 _ _ rfl
/-- Column 8 of the statistics is the largest magnitude of group 8. -/
theorem col8 : v.read (Elt Ideal) (v.writes (Elt Ideal) f (cols v4 v23 v27)) (ix2 r (8 : Fin 128)) = rmax (row v4 r) (row1 v23) (row1 v27) 8 := by
  unfold cols
  rw [miss1 v f 0 14 inb_S128x128_S128x1_0_14 rfl _ _ r (8 : Fin 128) (by decide)]
  rw [miss1 v f 0 13 inb_S128x128_S128x1_0_13 rfl _ _ r (8 : Fin 128) (by decide)]
  rw [miss1 v f 0 12 inb_S128x128_S128x1_0_12 rfl _ _ r (8 : Fin 128) (by decide)]
  rw [miss1 v f 0 11 inb_S128x128_S128x1_0_11 rfl _ _ r (8 : Fin 128) (by decide)]
  rw [miss1 v f 0 10 inb_S128x128_S128x1_0_10 rfl _ _ r (8 : Fin 128) (by decide)]
  rw [miss1 v f 0 9 inb_S128x128_S128x1_0_9 rfl _ _ r (8 : Fin 128) (by decide)]
  rw [hit v f 0 8 inb_S128x128_S128x1_0_8 rfl _ _ r (8 : Fin 128) r 0 (by omega) rfl]
  rw [p21]; exact gm_eq v4 v23 v27 r 8 _ _ rfl
/-- Column 9 of the statistics is the largest magnitude of group 9. -/
theorem col9 : v.read (Elt Ideal) (v.writes (Elt Ideal) f (cols v4 v23 v27)) (ix2 r (9 : Fin 128)) = rmax (row v4 r) (row1 v23) (row1 v27) 9 := by
  unfold cols
  rw [miss1 v f 0 14 inb_S128x128_S128x1_0_14 rfl _ _ r (9 : Fin 128) (by decide)]
  rw [miss1 v f 0 13 inb_S128x128_S128x1_0_13 rfl _ _ r (9 : Fin 128) (by decide)]
  rw [miss1 v f 0 12 inb_S128x128_S128x1_0_12 rfl _ _ r (9 : Fin 128) (by decide)]
  rw [miss1 v f 0 11 inb_S128x128_S128x1_0_11 rfl _ _ r (9 : Fin 128) (by decide)]
  rw [miss1 v f 0 10 inb_S128x128_S128x1_0_10 rfl _ _ r (9 : Fin 128) (by decide)]
  rw [hit v f 0 9 inb_S128x128_S128x1_0_9 rfl _ _ r (9 : Fin 128) r 0 (by omega) rfl]
  rw [p22]; exact gm_eq v4 v23 v27 r 9 _ _ rfl
/-- Column 10 of the statistics is the largest magnitude of group 10. -/
theorem col10 : v.read (Elt Ideal) (v.writes (Elt Ideal) f (cols v4 v23 v27)) (ix2 r (10 : Fin 128)) = rmax (row v4 r) (row1 v23) (row1 v27) 10 := by
  unfold cols
  rw [miss1 v f 0 14 inb_S128x128_S128x1_0_14 rfl _ _ r (10 : Fin 128) (by decide)]
  rw [miss1 v f 0 13 inb_S128x128_S128x1_0_13 rfl _ _ r (10 : Fin 128) (by decide)]
  rw [miss1 v f 0 12 inb_S128x128_S128x1_0_12 rfl _ _ r (10 : Fin 128) (by decide)]
  rw [miss1 v f 0 11 inb_S128x128_S128x1_0_11 rfl _ _ r (10 : Fin 128) (by decide)]
  rw [hit v f 0 10 inb_S128x128_S128x1_0_10 rfl _ _ r (10 : Fin 128) r 0 (by omega) rfl]
  rw [p23]; exact gm_eq v4 v23 v27 r 10 _ _ rfl
/-- Column 11 of the statistics is the largest magnitude of group 11. -/
theorem col11 : v.read (Elt Ideal) (v.writes (Elt Ideal) f (cols v4 v23 v27)) (ix2 r (11 : Fin 128)) = rmax (row v4 r) (row1 v23) (row1 v27) 11 := by
  unfold cols
  rw [miss1 v f 0 14 inb_S128x128_S128x1_0_14 rfl _ _ r (11 : Fin 128) (by decide)]
  rw [miss1 v f 0 13 inb_S128x128_S128x1_0_13 rfl _ _ r (11 : Fin 128) (by decide)]
  rw [miss1 v f 0 12 inb_S128x128_S128x1_0_12 rfl _ _ r (11 : Fin 128) (by decide)]
  rw [hit v f 0 11 inb_S128x128_S128x1_0_11 rfl _ _ r (11 : Fin 128) r 0 (by omega) rfl]
  rw [p24]; exact gm_eq v4 v23 v27 r 11 _ _ rfl
/-- Column 12 of the statistics is the largest magnitude of group 12. -/
theorem col12 : v.read (Elt Ideal) (v.writes (Elt Ideal) f (cols v4 v23 v27)) (ix2 r (12 : Fin 128)) = rmax (row v4 r) (row1 v23) (row1 v27) 12 := by
  unfold cols
  rw [miss1 v f 0 14 inb_S128x128_S128x1_0_14 rfl _ _ r (12 : Fin 128) (by decide)]
  rw [miss1 v f 0 13 inb_S128x128_S128x1_0_13 rfl _ _ r (12 : Fin 128) (by decide)]
  rw [hit v f 0 12 inb_S128x128_S128x1_0_12 rfl _ _ r (12 : Fin 128) r 0 (by omega) rfl]
  rw [p25]; exact gm_eq v4 v23 v27 r 12 _ _ rfl
/-- Column 13 of the statistics is the row's mean. -/
theorem col13 : v.read (Elt Ideal) (v.writes (Elt Ideal) f (cols v4 v23 v27)) (ix2 r (13 : Fin 128)) = mean (row v4 r) := by
  unfold cols
  rw [miss1 v f 0 14 inb_S128x128_S128x1_0_14 rfl _ _ r (13 : Fin 128) (by decide)]
  rw [hit v f 0 13 inb_S128x128_S128x1_0_13 rfl _ _ r (13 : Fin 128) r 0 (by omega) rfl]
  exact (p26 _ r).trans (p5 v4 r)
/-- Column 14 of the statistics is the row's reciprocal deviation. -/
theorem col14 : v.read (Elt Ideal) (v.writes (Elt Ideal) f (cols v4 v23 v27)) (ix2 r (14 : Fin 128)) = rsig (row v4 r) := by
  unfold cols

  rw [hit v f 0 14 inb_S128x128_S128x1_0_14 rfl _ _ r (14 : Fin 128) r 0 (by omega) rfl]
  exact (p27 _ r).trans (p7 v4 r)

/-- Column `q` of the statistics is the largest magnitude of group `q`. -/
theorem colq (q : Fin 13) (c : Fin 128) (hc : c.val = q.val) : v.read (Elt Ideal) (v.writes (Elt Ideal) f (cols v4 v23 v27)) (ix2 r c) = rmax (row v4 r) (row1 v23) (row1 v27) q := by
  obtain ⟨c, hc'⟩ := c
  obtain ⟨q, hq⟩ := q
  simp only at hc
  subst hc
  match c, hq with
  | 0, _ => exact col0 v f v4 v23 v27 r
  | 1, _ => exact col1 v f v4 v23 v27 r
  | 2, _ => exact col2 v f v4 v23 v27 r
  | 3, _ => exact col3 v f v4 v23 v27 r
  | 4, _ => exact col4 v f v4 v23 v27 r
  | 5, _ => exact col5 v f v4 v23 v27 r
  | 6, _ => exact col6 v f v4 v23 v27 r
  | 7, _ => exact col7 v f v4 v23 v27 r
  | 8, _ => exact col8 v f v4 v23 v27 r
  | 9, _ => exact col9 v f v4 v23 v27 r
  | 10, _ => exact col10 v f v4 v23 v27 r
  | 11, _ => exact col11 v f v4 v23 v27 r
  | 12, _ => exact col12 v f v4 v23 v27 r

end Reads

end Cert.KernelIdeal.Hand
-- ==== Proof.IStep.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WritesUnit
public import Idealize.ShloMosaic.Lib.VecWindow
public import proofs.«01_k».proof.Proof.ITrip
public import proofs.«01_k».proof.Proof.ICols

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Spec Cert.KernelIdeal.Pay

/-! ## What a block's results are, as functions of the block's rows -/

/-- The 128 rows of group `k` of a block of 1024. -/
def grp (A : Fin 1024 → Fin 1664 → EReal) (k : Fin 8) : Fin 128 → Fin 1664 → EReal := fun r => A ⟨k.val * 128 + r.val, by omega⟩
/-- Row codes. -/
def T5 (A : Fin 1024 → Fin 1664 → EReal) (G B : Fin 1664 → EReal) (p : Fin 1024) (j : Fin 1664) : EReal := clip (yv (A p) G B j * iK (rmax (A p) G B ⟨j.val / 128, by omega⟩))
/-- Row scales, stored transposed. -/
def T6 (A : Fin 1024 → Fin 1664 → EReal) (G B : Fin 1664 → EReal) (q : Fin 13) (p : Fin 1024) : EReal := sK (rmax (A p) G B q)
/-- Column codes, stored transposed. -/
def T7 (A : Fin 1024 → Fin 1664 → EReal) (G B : Fin 1664 → EReal) (j : Fin 1664) (p : Fin 1024) : EReal := clip (yv (A p) G B j * iK (cmax (grp A ⟨p.val / 128, by omega⟩) G B j))
/-- Column scales. -/
def T8 (A : Fin 1024 → Fin 1664 → EReal) (G B : Fin 1664 → EReal) (k : Fin 8) (j : Fin 1664) : EReal := sK (cmax (grp A k) G B j)
/-- Reciprocal deviations. -/
def T9 (A : Fin 1024 → Fin 1664 → EReal) (k : Fin 8) (r : Fin 128) : EReal := rsig (grp A k r)
/-- Means. -/
def T10 (A : Fin 1024 → Fin 1664 → EReal) (k : Fin 8) (r : Fin 128) : EReal := mean (grp A k r)

/-! ## The payloads, in those terms -/

section Vals
variable {sg : RefSig} {κ : Kind} {sp : Space}
variable (v : View sg κ sp S128x128 .f32) (f : v.ty.Contents (Elt Ideal)) (v4 : Vec Ideal S128x1664 .bf16) (v23 v27 : Vec Ideal S1x1664 .f32)

/-- The scratch, loaded whole after a trip's column stores. -/
def loaded : Vec Ideal S128x128 .f32 :=
  v.readAt (Elt Ideal) (Rect.unit (s := S128x128) ![0, 0] S128x128.size inb_S128x128_S128x128_0_0).toLoadRect (v.writes (Elt Ideal) f (cols v4 v23 v27))

/-- The statistics as loaded back, entry by entry. -/
theorem loaded_at (r c : Fin 128) : loaded v f v4 v23 v27 (ix2 r c) = v.read (Elt Ideal) (v.writes (Elt Ideal) f (cols v4 v23 v27)) (ix2 r c) := by
  unfold loaded
  refine (readAt_at v _ 0 0 inb_S128x128_S128x128_0_0 rfl r c (by omega) (by omega)).trans ?_
  simp only [Nat.zero_add]

/-- The row scales of one trip. -/
theorem val6 (q : Fin 13) (r : Fin 128) :
    k0_pay1 (F := Ideal) (k0_pay40 (F := Ideal) (k0_pay37 (F := Ideal) (loaded v f v4 v23 v27)) (k0_pay38 (F := Ideal) (loaded v f v4 v23 v27))) (ix2 q r) = sK (rmax (row v4 r) (row1 v23) (row1 v27) q) := by
  rw [p1, p40, loaded_at, colq v f v4 v23 v27 r q _ rfl]
/-- The reciprocal deviations of one trip. -/
theorem val9 (r : Fin 128) : k0_pay36 (F := Ideal) (loaded v f v4 v23 v27) (ix2 0 r) = rsig (row v4 r) := by
  rw [p36, loaded_at]; exact col14 v f v4 v23 v27 r
/-- The means of one trip. -/
theorem val10 (r : Fin 128) : k0_pay35 (F := Ideal) (loaded v f v4 v23 v27) (ix2 0 r) = mean (row v4 r) := by
  rw [p35, loaded_at]; exact col13 v f v4 v23 v27 r

/-- The word of zero. -/
theorem zero32 : Ideal.ofBits .f32 0x00000000#32 = 0 := by
  simp [Ideal.ofBits, Ideal.ieee]

/-- The row codes of one trip. -/
theorem val5 (v294 : Vec Ideal S16x1664 .bf16) (hH : ∀ (q : Fin 16) (j : Fin 1664), v294 (ix2 q j) = if j.val / 128 = q.val then (1 : EReal) else 0) (r : Fin 128) (j : Fin 1664) :
    k0_pay2 (F := Ideal) (k0_pay41 (F := Ideal) (k0_pay37 (F := Ideal) (loaded v f v4 v23 v27)) (k0_pay38 (F := Ideal) (loaded v f v4 v23 v27))) 23#32 v294 (k0_pay9 (F := Ideal) v4 v23 v27) (ix2 r j)
      = clip (yv (row v4 r) (row1 v23) (row1 v27) j * iK (rmax (row v4 r) (row1 v23) (row1 v27) ⟨j.val / 128, by omega⟩)) := by
  rw [p2, p9, zero32, zero_add]
  congr 2
  rw [Finset.sum_eq_single (⟨j.val / 128, by omega⟩ : Fin 16)]
  · rw [hH, if_pos rfl, mul_one, p41, loaded_at, colq v f v4 v23 v27 r ⟨j.val / 128, by omega⟩ _ rfl]; rfl
  · intro q _ hq
    rw [hH, if_neg (fun h => hq (Fin.ext h.symm)), mul_zero]
  · intro h; exact absurd (Finset.mem_univ _) h

/-- The largest magnitude down a column of the trip's rows. -/
theorem cm_eq (j : Fin 1664) : (top fun r : Fin 128 => k0_pay10 (F := Ideal) v4 v23 v27 (ix2 r j)) = cmax (row v4) (row1 v23) (row1 v27) j := by
  unfold cmax
  congr 1; funext r
  exact p10 v4 v23 v27 r j
/-- The column scales of one trip. -/
theorem val8 (j : Fin 1664) :
    k0_pay32 (F := Ideal) (k0_pay28 (F := Ideal) (k0_pay10 (F := Ideal) v4 v23 v27)) (k0_pay29 (F := Ideal) (k0_pay10 (F := Ideal) v4 v23 v27)) (k0_pay30 (F := Ideal) (k0_pay10 (F := Ideal) v4 v23 v27)) 23#32 (ix2 0 j)
      = sK (cmax (row v4) (row1 v23) (row1 v27) j) := by
  rw [p32, cm_eq]
/-- The column codes of one trip. -/
theorem val7 (r : Fin 128) (j : Fin 1664) :
    k0_pay3 (F := Ideal) (k0_pay33 (F := Ideal) (k0_pay28 (F := Ideal) (k0_pay10 (F := Ideal) v4 v23 v27)) (k0_pay29 (F := Ideal) (k0_pay10 (F := Ideal) v4 v23 v27)) (k0_pay30 (F := Ideal) (k0_pay10 (F := Ideal) v4 v23 v27)) 23#32) (k0_pay9 (F := Ideal) v4 v23 v27) (ix2 j r)
      = clip (yv (row v4 r) (row1 v23) (row1 v27) j * iK (cmax (row v4) (row1 v23) (row1 v27) j)) := by
  rw [p3, p9, p33, cm_eq]

end Vals

/-! ## The same for one trip of the loop -/

/-- Row `r` of trip `k` lies in the block. -/
theorem inb (k : Fin k0_t1_loop.trips) (r : Fin 128) : k.val * 128 + r.val < 1024 := by
  have := k_lt k; omega

section Blocks
variable {sg : RefSig} {κ : Kind} {sp : Space}

/-- The rows a trip loads are its group of the block. -/
theorem row_eq (v : View sg κ sp S1024x1664 .bf16) (X : v.ty.Contents (Elt Ideal)) (k : Fin k0_t1_loop.trips) (r : Fin 128) :
    row (v.readAt (Elt Ideal) (Rect.unit (s := S1024x1664) (k0_off1 k) S128x1664.size (k0_off1_inb k)).toLoadRect X) r
      = grp (fun p j => v.read (Elt Ideal) X (ix2 p j)) ⟨k.val, k_lt k⟩ r := by
  funext j
  have hk := k_lt k
  refine (readAt_at v X (k.val * 128) 0 (k0_off1_inb k) (off1 k) r j (by omega) (by omega)).trans ?_
  simp only [Nat.zero_add]; rfl
/-- A row vector, loaded whole. -/
theorem row1_eq (v : View sg κ sp S1x1664 .f32) (X : v.ty.Contents (Elt Ideal)) :
    row1 (v.readAt (Elt Ideal) (Rect.unit (s := S1x1664) ![0, 0] S1x1664.size inb_S1x1664_S1x1664_0_0).toLoadRect X) = fun j => v.read (Elt Ideal) X (ix2 0 j) := by
  funext j
  refine (readAt_at v X 0 0 inb_S1x1664_S1x1664_0_0 rfl 0 j (by decide) (by omega)).trans ?_
  simp only [Nat.zero_add]
/-- The one-hot table, loaded whole. -/
theorem hot_eq (v : View sg κ sp S16x1664 .bf16) (X : v.ty.Contents (Elt Ideal)) (q : Fin 16) (j : Fin 1664) :
    v.readAt (Elt Ideal) (Rect.unit (s := S16x1664) ![0, 0] S16x1664.size inb_S16x1664_S16x1664_0_0).toLoadRect X (ix2 q j) = v.read (Elt Ideal) X (ix2 q j) := by
  refine (readAt_at v X 0 0 inb_S16x1664_S16x1664_0_0 rfl q j (by omega) (by omega)).trans ?_
  simp only [Nat.zero_add]
end Blocks

/-- A trip extends the finished part of `arg5` by its group. -/
theorem step5  (𝒱 : Variants) (c : Dev nD) (bd : Option 𝒱.V) (E : Set ℕ) (i : grid0.Coords) (arg1 : Memref sig .tc .vmem S1024x1664 .bf16) (harg1 : arg1.IsWhole) (arg2 : Memref sig .tc .vmem S1x1664 .f32) (harg2 : arg2.IsWhole) (arg3 : Memref sig .tc .vmem S1x1664 .f32) (harg3 : arg3.IsWhole) (arg4 : Memref sig .tc .vmem S16x1664 .bf16) (harg4 : arg4.IsWhole) (arg5 : Memref sig .tc .vmem S1024x1664 .fp8e4m3) (harg5 : arg5.IsWhole) (arg6 : Memref sig .tc .vmem S13x1024 .f32) (harg6 : arg6.IsWhole) (arg7 : Memref sig .tc .vmem S1664x1024 .fp8e4m3) (harg7 : arg7.IsWhole) (arg8 : Memref sig .tc .vmem S8x1664 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S128x1664 .f32) (harg11 : arg11.IsWhole) (arg12 : Memref sig .tc .vmem S128x128 .f32) (harg12 : arg12.IsWhole)
    (X1 : Buf (Elt Ideal) (arg1.view.loc (c : Thread nD τ))) (X2 : Buf (Elt Ideal) (arg2.view.loc (c : Thread nD τ))) (X3 : Buf (Elt Ideal) (arg3.view.loc (c : Thread nD τ))) (X4 : Buf (Elt Ideal) (arg4.view.loc (c : Thread nD τ))) (f12 : Buf (Elt Ideal) (arg12.view.loc (c : Thread nD τ))) (k : Fin k0_t1_loop.trips) (hH : ∀ (q : Fin 16) (j : Fin 1664), arg4.view.read (Elt Ideal) X4 (ix2 q j) = if j.val / 128 = q.val then (1 : EReal) else 0) (f : Buf (Elt Ideal) (arg5.view.loc (c : Thread nD τ)))
    (hf : ∀ (a : Fin 1024) (b : Fin 1664), a.val < k.val * 128 → arg5.view.read (Elt Ideal) f (ix2 a b) = T5 (fun p j => arg1.view.read (Elt Ideal) X1 (ix2 p j)) (fun j => arg2.view.read (Elt Ideal) X2 (ix2 0 j)) (fun j => arg3.view.read (Elt Ideal) X3 (ix2 0 j)) a b) (a : Fin 1024) (b : Fin 1664) (h : a.val < (k.val + 1) * 128) :
    arg5.view.read (Elt Ideal) (arg5.view.writes (Elt Ideal) f (trip (F := Ideal) 𝒱 c bd E i arg1 harg1 arg2 harg2 arg3 harg3 arg4 harg4 arg5 harg5 arg6 harg6 arg7 harg7 arg8 harg8 arg9 harg9 arg10 harg10 arg11 harg11 arg12 harg12 X1 X2 X3 X4 f12 k).1) (ix2 a b) = T5 (fun p j => arg1.view.read (Elt Ideal) X1 (ix2 p j)) (fun j => arg2.view.read (Elt Ideal) X2 (ix2 0 j)) (fun j => arg3.view.read (Elt Ideal) X3 (ix2 0 j)) a b := by
  have hk := k_lt k
  rw [tripL5]
  by_cases hlt : a.val < k.val * 128
  · rw [miss0 arg5.view f (k.val * 128) 0 (k0_off1_inb k) (off1 k) _ _ a b (Or.inl (by omega))]
    exact hf a b hlt
  · obtain ⟨r, rfl⟩ : ∃ r : Fin 128, a = ⟨k.val * 128 + r.val, inb k r⟩ := ⟨⟨a.val - k.val * 128, by omega⟩, Fin.ext (by simp only; omega)⟩
    refine (hit arg5.view f (k.val * 128) 0 (k0_off1_inb k) (off1 k) _ _ _ _ r b rfl (by omega)).trans ?_
    rw [View.readCov_cons_toLoadRect]
    refine (val5 arg12.view f12 _ _ _ _ (fun q j => (hot_eq arg4.view X4 q j).trans (hH q j)) r b).trans ?_
    rw [row_eq, row1_eq, row1_eq]
    rfl

/-- A trip extends the finished part of `arg6` by its group. -/
theorem step6  (𝒱 : Variants) (c : Dev nD) (bd : Option 𝒱.V) (E : Set ℕ) (i : grid0.Coords) (arg1 : Memref sig .tc .vmem S1024x1664 .bf16) (harg1 : arg1.IsWhole) (arg2 : Memref sig .tc .vmem S1x1664 .f32) (harg2 : arg2.IsWhole) (arg3 : Memref sig .tc .vmem S1x1664 .f32) (harg3 : arg3.IsWhole) (arg4 : Memref sig .tc .vmem S16x1664 .bf16) (harg4 : arg4.IsWhole) (arg5 : Memref sig .tc .vmem S1024x1664 .fp8e4m3) (harg5 : arg5.IsWhole) (arg6 : Memref sig .tc .vmem S13x1024 .f32) (harg6 : arg6.IsWhole) (arg7 : Memref sig .tc .vmem S1664x1024 .fp8e4m3) (harg7 : arg7.IsWhole) (arg8 : Memref sig .tc .vmem S8x1664 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S128x1664 .f32) (harg11 : arg11.IsWhole) (arg12 : Memref sig .tc .vmem S128x128 .f32) (harg12 : arg12.IsWhole)
    (X1 : Buf (Elt Ideal) (arg1.view.loc (c : Thread nD τ))) (X2 : Buf (Elt Ideal) (arg2.view.loc (c : Thread nD τ))) (X3 : Buf (Elt Ideal) (arg3.view.loc (c : Thread nD τ))) (X4 : Buf (Elt Ideal) (arg4.view.loc (c : Thread nD τ))) (f12 : Buf (Elt Ideal) (arg12.view.loc (c : Thread nD τ))) (k : Fin k0_t1_loop.trips) (hH : ∀ (q : Fin 16) (j : Fin 1664), arg4.view.read (Elt Ideal) X4 (ix2 q j) = if j.val / 128 = q.val then (1 : EReal) else 0) (f : Buf (Elt Ideal) (arg6.view.loc (c : Thread nD τ)))
    (hf : ∀ (a : Fin 13) (b : Fin 1024), b.val < k.val * 128 → arg6.view.read (Elt Ideal) f (ix2 a b) = T6 (fun p j => arg1.view.read (Elt Ideal) X1 (ix2 p j)) (fun j => arg2.view.read (Elt Ideal) X2 (ix2 0 j)) (fun j => arg3.view.read (Elt Ideal) X3 (ix2 0 j)) a b) (a : Fin 13) (b : Fin 1024) (h : b.val < (k.val + 1) * 128) :
    arg6.view.read (Elt Ideal) (arg6.view.writes (Elt Ideal) f (trip (F := Ideal) 𝒱 c bd E i arg1 harg1 arg2 harg2 arg3 harg3 arg4 harg4 arg5 harg5 arg6 harg6 arg7 harg7 arg8 harg8 arg9 harg9 arg10 harg10 arg11 harg11 arg12 harg12 X1 X2 X3 X4 f12 k).2.1) (ix2 a b) = T6 (fun p j => arg1.view.read (Elt Ideal) X1 (ix2 p j)) (fun j => arg2.view.read (Elt Ideal) X2 (ix2 0 j)) (fun j => arg3.view.read (Elt Ideal) X3 (ix2 0 j)) a b := by
  have hk := k_lt k
  rw [tripL6]
  by_cases hlt : b.val < k.val * 128
  · rw [miss1 arg6.view f 0 (k.val * 128) (k0_off4_inb k) (off4 k) _ _ a b (Or.inl (by omega))]
    exact hf a b hlt
  · obtain ⟨r, rfl⟩ : ∃ r : Fin 128, b = ⟨k.val * 128 + r.val, inb k r⟩ := ⟨⟨b.val - k.val * 128, by omega⟩, Fin.ext (by simp only; omega)⟩
    refine (hit arg6.view f 0 (k.val * 128) (k0_off4_inb k) (off4 k) _ _ _ _ a r (by omega) rfl).trans ?_
    refine (val6 arg12.view f12 _ _ _ a r).trans ?_
    rw [row_eq, row1_eq, row1_eq]
    rfl

/-- A trip extends the finished part of `arg7` by its group. -/
theorem step7  (𝒱 : Variants) (c : Dev nD) (bd : Option 𝒱.V) (E : Set ℕ) (i : grid0.Coords) (arg1 : Memref sig .tc .vmem S1024x1664 .bf16) (harg1 : arg1.IsWhole) (arg2 : Memref sig .tc .vmem S1x1664 .f32) (harg2 : arg2.IsWhole) (arg3 : Memref sig .tc .vmem S1x1664 .f32) (harg3 : arg3.IsWhole) (arg4 : Memref sig .tc .vmem S16x1664 .bf16) (harg4 : arg4.IsWhole) (arg5 : Memref sig .tc .vmem S1024x1664 .fp8e4m3) (harg5 : arg5.IsWhole) (arg6 : Memref sig .tc .vmem S13x1024 .f32) (harg6 : arg6.IsWhole) (arg7 : Memref sig .tc .vmem S1664x1024 .fp8e4m3) (harg7 : arg7.IsWhole) (arg8 : Memref sig .tc .vmem S8x1664 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S128x1664 .f32) (harg11 : arg11.IsWhole) (arg12 : Memref sig .tc .vmem S128x128 .f32) (harg12 : arg12.IsWhole)
    (X1 : Buf (Elt Ideal) (arg1.view.loc (c : Thread nD τ))) (X2 : Buf (Elt Ideal) (arg2.view.loc (c : Thread nD τ))) (X3 : Buf (Elt Ideal) (arg3.view.loc (c : Thread nD τ))) (X4 : Buf (Elt Ideal) (arg4.view.loc (c : Thread nD τ))) (f12 : Buf (Elt Ideal) (arg12.view.loc (c : Thread nD τ))) (k : Fin k0_t1_loop.trips) (hH : ∀ (q : Fin 16) (j : Fin 1664), arg4.view.read (Elt Ideal) X4 (ix2 q j) = if j.val / 128 = q.val then (1 : EReal) else 0) (f : Buf (Elt Ideal) (arg7.view.loc (c : Thread nD τ)))
    (hf : ∀ (a : Fin 1664) (b : Fin 1024), b.val < k.val * 128 → arg7.view.read (Elt Ideal) f (ix2 a b) = T7 (fun p j => arg1.view.read (Elt Ideal) X1 (ix2 p j)) (fun j => arg2.view.read (Elt Ideal) X2 (ix2 0 j)) (fun j => arg3.view.read (Elt Ideal) X3 (ix2 0 j)) a b) (a : Fin 1664) (b : Fin 1024) (h : b.val < (k.val + 1) * 128) :
    arg7.view.read (Elt Ideal) (arg7.view.writes (Elt Ideal) f (trip (F := Ideal) 𝒱 c bd E i arg1 harg1 arg2 harg2 arg3 harg3 arg4 harg4 arg5 harg5 arg6 harg6 arg7 harg7 arg8 harg8 arg9 harg9 arg10 harg10 arg11 harg11 arg12 harg12 X1 X2 X3 X4 f12 k).2.2.1) (ix2 a b) = T7 (fun p j => arg1.view.read (Elt Ideal) X1 (ix2 p j)) (fun j => arg2.view.read (Elt Ideal) X2 (ix2 0 j)) (fun j => arg3.view.read (Elt Ideal) X3 (ix2 0 j)) a b := by
  have hk := k_lt k
  rw [tripL7]
  by_cases hlt : b.val < k.val * 128
  · rw [miss1 arg7.view f 0 (k.val * 128) (k0_off5_inb k) (off5 k) _ _ a b (Or.inl (by omega))]
    exact hf a b hlt
  · obtain ⟨r, rfl⟩ : ∃ r : Fin 128, b = ⟨k.val * 128 + r.val, inb k r⟩ := ⟨⟨b.val - k.val * 128, by omega⟩, Fin.ext (by simp only; omega)⟩
    refine (hit arg7.view f 0 (k.val * 128) (k0_off5_inb k) (off5 k) _ _ _ _ a r (by omega) rfl).trans ?_
    rw [View.readCov_cons_toLoadRect]
    refine (val7 _ _ _ r a).trans ?_
    rw [show row _ = grp (fun p j => arg1.view.read (Elt Ideal) X1 (ix2 p j)) ⟨k.val, k_lt k⟩ from funext fun r => row_eq arg1.view X1 k r, row1_eq, row1_eq]
    unfold T7; rw [show (⟨(k.val * 128 + r.val) / 128, by omega⟩ : Fin 8) = ⟨k.val, hk⟩ from Fin.ext (by simp only; omega)]; rfl

/-- A trip extends the finished part of `arg8` by its group. -/
theorem step8  (𝒱 : Variants) (c : Dev nD) (bd : Option 𝒱.V) (E : Set ℕ) (i : grid0.Coords) (arg1 : Memref sig .tc .vmem S1024x1664 .bf16) (harg1 : arg1.IsWhole) (arg2 : Memref sig .tc .vmem S1x1664 .f32) (harg2 : arg2.IsWhole) (arg3 : Memref sig .tc .vmem S1x1664 .f32) (harg3 : arg3.IsWhole) (arg4 : Memref sig .tc .vmem S16x1664 .bf16) (harg4 : arg4.IsWhole) (arg5 : Memref sig .tc .vmem S1024x1664 .fp8e4m3) (harg5 : arg5.IsWhole) (arg6 : Memref sig .tc .vmem S13x1024 .f32) (harg6 : arg6.IsWhole) (arg7 : Memref sig .tc .vmem S1664x1024 .fp8e4m3) (harg7 : arg7.IsWhole) (arg8 : Memref sig .tc .vmem S8x1664 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S128x1664 .f32) (harg11 : arg11.IsWhole) (arg12 : Memref sig .tc .vmem S128x128 .f32) (harg12 : arg12.IsWhole)
    (X1 : Buf (Elt Ideal) (arg1.view.loc (c : Thread nD τ))) (X2 : Buf (Elt Ideal) (arg2.view.loc (c : Thread nD τ))) (X3 : Buf (Elt Ideal) (arg3.view.loc (c : Thread nD τ))) (X4 : Buf (Elt Ideal) (arg4.view.loc (c : Thread nD τ))) (f12 : Buf (Elt Ideal) (arg12.view.loc (c : Thread nD τ))) (k : Fin k0_t1_loop.trips) (hH : ∀ (q : Fin 16) (j : Fin 1664), arg4.view.read (Elt Ideal) X4 (ix2 q j) = if j.val / 128 = q.val then (1 : EReal) else 0) (f : Buf (Elt Ideal) (arg8.view.loc (c : Thread nD τ)))
    (hf : ∀ (a : Fin 8) (b : Fin 1664), a.val < k.val → arg8.view.read (Elt Ideal) f (ix2 a b) = T8 (fun p j => arg1.view.read (Elt Ideal) X1 (ix2 p j)) (fun j => arg2.view.read (Elt Ideal) X2 (ix2 0 j)) (fun j => arg3.view.read (Elt Ideal) X3 (ix2 0 j)) a b) (a : Fin 8) (b : Fin 1664) (h : a.val < k.val + 1) :
    arg8.view.read (Elt Ideal) (arg8.view.writes (Elt Ideal) f (trip (F := Ideal) 𝒱 c bd E i arg1 harg1 arg2 harg2 arg3 harg3 arg4 harg4 arg5 harg5 arg6 harg6 arg7 harg7 arg8 harg8 arg9 harg9 arg10 harg10 arg11 harg11 arg12 harg12 X1 X2 X3 X4 f12 k).2.2.2.1) (ix2 a b) = T8 (fun p j => arg1.view.read (Elt Ideal) X1 (ix2 p j)) (fun j => arg2.view.read (Elt Ideal) X2 (ix2 0 j)) (fun j => arg3.view.read (Elt Ideal) X3 (ix2 0 j)) a b := by
  have hk := k_lt k
  rw [tripL8]
  by_cases hlt : a.val < k.val
  · rw [miss0 arg8.view f k.val 0 (k0_off2_inb k) (off2 k) _ _ a b (Or.inl (by omega))]
    exact hf a b hlt
  · obtain rfl : a = ⟨k.val, hk⟩ := Fin.ext (by simp only; omega)
    refine (hit arg8.view f k.val 0 (k0_off2_inb k) (off2 k) _ _ _ _ 0 b rfl (by omega)).trans ?_
    refine (val8 _ _ _ b).trans ?_
    rw [show row _ = grp (fun p j => arg1.view.read (Elt Ideal) X1 (ix2 p j)) ⟨k.val, k_lt k⟩ from funext fun r => row_eq arg1.view X1 k r, row1_eq, row1_eq]
    rfl

/-- A trip extends the finished part of `arg9` by its group. -/
theorem step9  (𝒱 : Variants) (c : Dev nD) (bd : Option 𝒱.V) (E : Set ℕ) (i : grid0.Coords) (arg1 : Memref sig .tc .vmem S1024x1664 .bf16) (harg1 : arg1.IsWhole) (arg2 : Memref sig .tc .vmem S1x1664 .f32) (harg2 : arg2.IsWhole) (arg3 : Memref sig .tc .vmem S1x1664 .f32) (harg3 : arg3.IsWhole) (arg4 : Memref sig .tc .vmem S16x1664 .bf16) (harg4 : arg4.IsWhole) (arg5 : Memref sig .tc .vmem S1024x1664 .fp8e4m3) (harg5 : arg5.IsWhole) (arg6 : Memref sig .tc .vmem S13x1024 .f32) (harg6 : arg6.IsWhole) (arg7 : Memref sig .tc .vmem S1664x1024 .fp8e4m3) (harg7 : arg7.IsWhole) (arg8 : Memref sig .tc .vmem S8x1664 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S128x1664 .f32) (harg11 : arg11.IsWhole) (arg12 : Memref sig .tc .vmem S128x128 .f32) (harg12 : arg12.IsWhole)
    (X1 : Buf (Elt Ideal) (arg1.view.loc (c : Thread nD τ))) (X2 : Buf (Elt Ideal) (arg2.view.loc (c : Thread nD τ))) (X3 : Buf (Elt Ideal) (arg3.view.loc (c : Thread nD τ))) (X4 : Buf (Elt Ideal) (arg4.view.loc (c : Thread nD τ))) (f12 : Buf (Elt Ideal) (arg12.view.loc (c : Thread nD τ))) (k : Fin k0_t1_loop.trips) (hH : ∀ (q : Fin 16) (j : Fin 1664), arg4.view.read (Elt Ideal) X4 (ix2 q j) = if j.val / 128 = q.val then (1 : EReal) else 0) (f : Buf (Elt Ideal) (arg9.view.loc (c : Thread nD τ)))
    (hf : ∀ (a : Fin 8) (b : Fin 128), a.val < k.val → arg9.view.read (Elt Ideal) f (ix2 a b) = T9 (fun p j => arg1.view.read (Elt Ideal) X1 (ix2 p j)) a b) (a : Fin 8) (b : Fin 128) (h : a.val < k.val + 1) :
    arg9.view.read (Elt Ideal) (arg9.view.writes (Elt Ideal) f (trip (F := Ideal) 𝒱 c bd E i arg1 harg1 arg2 harg2 arg3 harg3 arg4 harg4 arg5 harg5 arg6 harg6 arg7 harg7 arg8 harg8 arg9 harg9 arg10 harg10 arg11 harg11 arg12 harg12 X1 X2 X3 X4 f12 k).2.2.2.2.1) (ix2 a b) = T9 (fun p j => arg1.view.read (Elt Ideal) X1 (ix2 p j)) a b := by
  have hk := k_lt k
  rw [tripL9]
  by_cases hlt : a.val < k.val
  · rw [miss0 arg9.view f k.val 0 (k0_off3_inb k) (off3 k) _ _ a b (Or.inl (by omega))]
    exact hf a b hlt
  · obtain rfl : a = ⟨k.val, hk⟩ := Fin.ext (by simp only; omega)
    refine (hit arg9.view f k.val 0 (k0_off3_inb k) (off3 k) _ _ _ _ 0 b rfl (by omega)).trans ?_
    refine (val9 arg12.view f12 _ _ _ b).trans ?_
    rw [row_eq]
    rfl

/-- A trip extends the finished part of `arg10` by its group. -/
theorem step10  (𝒱 : Variants) (c : Dev nD) (bd : Option 𝒱.V) (E : Set ℕ) (i : grid0.Coords) (arg1 : Memref sig .tc .vmem S1024x1664 .bf16) (harg1 : arg1.IsWhole) (arg2 : Memref sig .tc .vmem S1x1664 .f32) (harg2 : arg2.IsWhole) (arg3 : Memref sig .tc .vmem S1x1664 .f32) (harg3 : arg3.IsWhole) (arg4 : Memref sig .tc .vmem S16x1664 .bf16) (harg4 : arg4.IsWhole) (arg5 : Memref sig .tc .vmem S1024x1664 .fp8e4m3) (harg5 : arg5.IsWhole) (arg6 : Memref sig .tc .vmem S13x1024 .f32) (harg6 : arg6.IsWhole) (arg7 : Memref sig .tc .vmem S1664x1024 .fp8e4m3) (harg7 : arg7.IsWhole) (arg8 : Memref sig .tc .vmem S8x1664 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S128x1664 .f32) (harg11 : arg11.IsWhole) (arg12 : Memref sig .tc .vmem S128x128 .f32) (harg12 : arg12.IsWhole)
    (X1 : Buf (Elt Ideal) (arg1.view.loc (c : Thread nD τ))) (X2 : Buf (Elt Ideal) (arg2.view.loc (c : Thread nD τ))) (X3 : Buf (Elt Ideal) (arg3.view.loc (c : Thread nD τ))) (X4 : Buf (Elt Ideal) (arg4.view.loc (c : Thread nD τ))) (f12 : Buf (Elt Ideal) (arg12.view.loc (c : Thread nD τ))) (k : Fin k0_t1_loop.trips) (hH : ∀ (q : Fin 16) (j : Fin 1664), arg4.view.read (Elt Ideal) X4 (ix2 q j) = if j.val / 128 = q.val then (1 : EReal) else 0) (f : Buf (Elt Ideal) (arg10.view.loc (c : Thread nD τ)))
    (hf : ∀ (a : Fin 8) (b : Fin 128), a.val < k.val → arg10.view.read (Elt Ideal) f (ix2 a b) = T10 (fun p j => arg1.view.read (Elt Ideal) X1 (ix2 p j)) a b) (a : Fin 8) (b : Fin 128) (h : a.val < k.val + 1) :
    arg10.view.read (Elt Ideal) (arg10.view.writes (Elt Ideal) f (trip (F := Ideal) 𝒱 c bd E i arg1 harg1 arg2 harg2 arg3 harg3 arg4 harg4 arg5 harg5 arg6 harg6 arg7 harg7 arg8 harg8 arg9 harg9 arg10 harg10 arg11 harg11 arg12 harg12 X1 X2 X3 X4 f12 k).2.2.2.2.2.1) (ix2 a b) = T10 (fun p j => arg1.view.read (Elt Ideal) X1 (ix2 p j)) a b := by
  have hk := k_lt k
  rw [tripL10]
  by_cases hlt : a.val < k.val
  · rw [miss0 arg10.view f k.val 0 (k0_off3_inb k) (off3 k) _ _ a b (Or.inl (by omega))]
    exact hf a b hlt
  · obtain rfl : a = ⟨k.val, hk⟩ := Fin.ext (by simp only; omega)
    refine (hit arg10.view f k.val 0 (k0_off3_inb k) (off3 k) _ _ _ _ 0 b rfl (by omega)).trans ?_
    refine (val10 arg12.view f12 _ _ _ b).trans ?_
    rw [row_eq]
    rfl

end Cert.KernelIdeal.Hand
-- ==== Proof.Hot.lean ====
module

public import proofs.«01_k».proof.Proof.Spec
public import Idealize.ShloMosaic.Lib.Pointwise

@[expose] public section

set_option maxRecDepth 16384
set_option maxHeartbeats 4000000

noncomputable section

namespace Cert.Spec

open Idealize.ShloMosaic

/-- The rows of the input: the two leading axes taken together. -/
def xOf (x : (⟨3, ![23, 2048, 1664]⟩ : Shape).Idx → EReal) (i : Fin 47104) (j : Fin 1664) : EReal := x (ix3 ⟨i.val / 2048, by omega⟩ ⟨i.val % 2048, by omega⟩ j)
/-- A parameter vector, by its index. -/
def gOf (g : (⟨1, ![1664]⟩ : Shape).Idx → EReal) (j : Fin 1664) : EReal := g (ix1 j)

/-- The host's floor division of a column number by 128, word by word. -/
def fdiv (j : BitVec 32) : BitVec 32 :=
  Scalar.select
    (IntOp.andi
      (IntOp.cmpi (w := 32) CmpIPredicate.ne
        (if j = 0 then 0 else if j.msb = true then -1 else 1)
        (if 128#32 = 0 then 0 else if (128#32).msb = true then -1 else 1))
      (IntOp.cmpi CmpIPredicate.ne (IntOp.remsi ArithUnit.host j 128#32) 0#32))
    (IntOp.subi (IntOp.divsi ArithUnit.host j 128#32) 1#32)
    (IntOp.divsi ArithUnit.host j 128#32)

/-- It is the quotient. -/
theorem fdiv_eq : ∀ j : Fin 1664, fdiv (BitVec.ofNat 32 j.val) = BitVec.ofNat 32 (j.val / 128) := by decide +kernel

/-- The one-hot entry: 1 in the column's own group, 0 elsewhere. -/
theorem hot (q : Fin 16) (j : Fin 1664) : (FloatOps.uitofp (F := Ideal) FTy.bf16 (IntOp.cmpi CmpIPredicate.eq (fdiv (BitVec.ofNat 32 j.val)) (BitVec.ofNat 32 q.val)) : EReal)
    = if j.val / 128 = q.val then (1 : EReal) else 0 := by
  rw [fdiv_eq]
  have h : ∀ a b : Fin 16, IntOp.cmpi CmpIPredicate.eq (BitVec.ofNat 32 a.val) (BitVec.ofNat 32 b.val) = if a.val = b.val then 1#1 else 0#1 := by decide +kernel
  have := h ⟨j.val / 128, by omega⟩ q
  simp only at this
  rw [this]
  by_cases e : j.val / 128 = q.val
  · rw [if_pos e, if_pos e]
    show (((1#1).toNat : ℝ) : EReal) = 1
    simp
  · rw [if_neg e, if_neg e]
    show (((0#1).toNat : ℝ) : EReal) = 0
    simp

end Cert.Spec
-- ==== Proof.IHost.lean ====
module

public import proofs.«01_k».proof.Proof.Gen.KernelIdeal.Frame
public import proofs.«01_k».proof.Proof.Gen.KernelIdeal.Points
public import Idealize.ShloMosaic.Lib.Pipeline.ValueKit
public import Idealize.ShloMosaic.Lib.Pointwise
public import Idealize.ShloMosaic.Lib.Claim
public import proofs.«01_k».proof.Proof.Hot
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Cert.Spec (xOf gOf hot)

variable (m : (ℓ : Loc nD τ sig) → Buf (Elt Ideal) ℓ)

/-- Where each window's block sits at a point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![0, t.val] ∧ win0_6.index t = ![0, t.val] ∧ win0_7.index t = ![t.val, 0] ∧ win0_8.index t = ![t.val, 0] ∧ win0_9.index t = ![t.val, 0] :=
  (by decide +kernel : ∀ t : Fin grid0.N, _)

/-- The input's rows, as the kernel's region finds them. -/
abbrev xm (c : Dev nD) : Fin 47104 → Fin 1664 → EReal := xOf (m ((c : Thread nD τ).loc main_arg0))
/-- The scale parameters. -/
abbrev gm (c : Dev nD) : Fin 1664 → EReal := gOf (m ((c : Thread nD τ).loc main_arg1))
/-- The shift parameters. -/
abbrev bm (c : Dev nD) : Fin 1664 → EReal := gOf (m ((c : Thread nD τ).loc main_arg2))

/-- The reshaped input, by row and column. -/
theorem xv (c : Dev nD) (i : Fin 47104) (j : Fin 1664) : V m c main_v9 (ix2 i j) = xm m c i j := by
  simp only [V, V0, hostOps0, hostOps0_1, hostOps0_2, List.flatten_cons, List.flatten_nil, List.append_nil, List.cons_append, List.nil_append]
  entry_read
  pointwise
  rfl
/-- `gamma` as the call takes it. -/
theorem gv (c : Dev nD) (j : Fin 1664) : V m c main_v11 (ix2 0 j) = gm m c j := by
  simp only [V, V0, hostOps0, hostOps0_1, hostOps0_2, List.flatten_cons, List.flatten_nil, List.append_nil, List.cons_append, List.nil_append]
  entry_read
  pointwise
  rfl
/-- `beta` as the call takes it. -/
theorem bv (c : Dev nD) (j : Fin 1664) : V m c main_v13 (ix2 0 j) = bm m c j := by
  simp only [V, V0, hostOps0, hostOps0_1, hostOps0_2, List.flatten_cons, List.flatten_nil, List.append_nil, List.cons_append, List.nil_append]
  entry_read
  pointwise
  rfl
/-- The one-hot array is 1 where the column lies in the group and 0 elsewhere. -/
theorem hv (c : Dev nD) (q : Fin 16) (j : Fin 1664) : V m c main_v8 (ix2 q j) = if j.val / 128 = q.val then (1 : EReal) else 0 := by
  simp only [V, V0, hostOps0, hostOps0_1, hostOps0_2, List.flatten_cons, List.flatten_nil, List.append_nil, List.cons_append, List.nil_append]
  entry_read
  simp only [StableHlo.TRef.ofBuf_toBuf]
  simp only [StableHlo.TRef.ofBuf, StableHlo.TRef.toBuf, cast_eq, eq_mpr_eq_cast, id]
  pointwise
  exact hot q j

/-- A point's rows of the input. -/
theorem blk0 (c : Dev nD) (t : Fin cfg0.N) (p : Fin 1024) (j : Fin 1664) (h : t.val * 1024 + p.val < 47104) :
    iblk m c 0 t (ix2 p j) = xm m c ⟨t.val * 1024 + p.val, h⟩ j := by
  rw [← xv]; blk_ext [iblk, idx t]
/-- Every step's `gamma` block is `gamma`. -/
theorem blk1 (c : Dev nD) (t : Fin cfg0.N) (j : Fin 1664) : iblk m c 1 t (ix2 0 j) = gm m c j := by
  rw [← gv]; blk_ext [iblk, idx t]
/-- Every step's `beta` block is `beta`. -/
theorem blk2 (c : Dev nD) (t : Fin cfg0.N) (j : Fin 1664) : iblk m c 2 t (ix2 0 j) = bm m c j := by
  rw [← bv]; blk_ext [iblk, idx t]
/-- Every step's one-hot block is the one-hot array. -/
theorem blk3 (c : Dev nD) (t : Fin cfg0.N) (q : Fin 16) (j : Fin 1664) : iblk m c 3 t (ix2 q j) = if j.val / 128 = q.val then (1 : EReal) else 0 := by
  rw [← hv m c]; blk_ext [iblk, idx t]

end Cert.KernelIdeal.Hand
-- ==== Proof.IBody.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import proofs.«01_k».proof.Proof.IStep
public import proofs.«01_k».proof.Proof.IHost

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Spec Cert.KernelIdeal.Pay

/-- Two functions on pairs of indices agree when they agree at every pair. -/
theorem ext2 {α : Type} {n k : ℕ} {f g : (⟨2, ![n, k]⟩ : Shape).Idx → α} (h : ∀ a b, f (ix2 a b) = g (ix2 a b)) : f = g := by
  funext y
  have e : y = ix2 (y 0) (y 1) := funext fun a => match a with
    | ⟨0, _⟩ => rfl
    | ⟨1, _⟩ => rfl
  rw [e]; exact h _ _

/-- The block results, as functions of an index of the block. -/
def out5 (A : Fin 1024 → Fin 1664 → EReal) (G B : Fin 1664 → EReal) (y : S1024x1664.Idx) : Elt Ideal .fp8e4m3 := T5 A G B (y 0) (y 1)
def out6 (A : Fin 1024 → Fin 1664 → EReal) (G B : Fin 1664 → EReal) (y : S13x1024.Idx) : Elt Ideal .f32 := T6 A G B (y 0) (y 1)
def out7 (A : Fin 1024 → Fin 1664 → EReal) (G B : Fin 1664 → EReal) (y : S1664x1024.Idx) : Elt Ideal .fp8e4m3 := T7 A G B (y 0) (y 1)
def out8 (A : Fin 1024 → Fin 1664 → EReal) (G B : Fin 1664 → EReal) (y : S8x1664.Idx) : Elt Ideal .f32 := T8 A G B (y 0) (y 1)
def out9 (A : Fin 1024 → Fin 1664 → EReal) (G B : Fin 1664 → EReal) (y : S8x128.Idx) : Elt Ideal .f32 := T9 A (y 0) (y 1)
def out10 (A : Fin 1024 → Fin 1664 → EReal) (G B : Fin 1664 → EReal) (y : S8x128.Idx) : Elt Ideal .f32 := T10 A (y 0) (y 1)

/-- The first `n` groups of every result block are finished. -/
def Good (A : Fin 1024 → Fin 1664 → EReal) (G B : Fin 1664 → EReal) (n : ℕ) (R5 : S1024x1664.Idx → Elt Ideal .fp8e4m3) (R6 : S13x1024.Idx → Elt Ideal .f32) (R7 : S1664x1024.Idx → Elt Ideal .fp8e4m3) (R8 : S8x1664.Idx → Elt Ideal .f32) (R9 : S8x128.Idx → Elt Ideal .f32) (R10 : S8x128.Idx → Elt Ideal .f32) : Prop :=
  (∀ (a : Fin 1024) (b : Fin 1664), a.val < n * 128 → R5 (ix2 a b) = T5 A G B a b)
  ∧ (∀ (a : Fin 13) (b : Fin 1024), b.val < n * 128 → R6 (ix2 a b) = T6 A G B a b)
  ∧ (∀ (a : Fin 1664) (b : Fin 1024), b.val < n * 128 → R7 (ix2 a b) = T7 A G B a b)
  ∧ (∀ (a : Fin 8) (b : Fin 1664), a.val < n → R8 (ix2 a b) = T8 A G B a b)
  ∧ (∀ (a : Fin 8) (b : Fin 128), a.val < n → R9 (ix2 a b) = T9 A a b)
  ∧ (∀ (a : Fin 8) (b : Fin 128), a.val < n → R10 (ix2 a b) = T10 A a b)

/-- With every group finished each result block is the stated function. -/
theorem Good.all {A : Fin 1024 → Fin 1664 → EReal} {G B : Fin 1664 → EReal} {n : ℕ} {R5 R6 R7 R8 R9 R10} (hn : n = 8) (h : Good A G B n R5 R6 R7 R8 R9 R10) :
    R5 = out5 A G B ∧ R6 = out6 A G B ∧ R7 = out7 A G B ∧ R8 = out8 A G B ∧ R9 = out9 A G B ∧ R10 = out10 A G B := by
  subst hn
  obtain ⟨h5, h6, h7, h8, h9, h10⟩ := h
  exact ⟨ext2 fun a b => h5 a b (by omega), ext2 fun a b => h6 a b (by omega), ext2 fun a b => h7 a b (by omega),
    ext2 fun a b => h8 a b a.isLt, ext2 fun a b => h9 a b a.isLt, ext2 fun a b => h10 a b a.isLt⟩

/-- The rows of the input a point works on. -/
def rowsAt (m : (ℓ : Loc nD τ sig) → Buf (Elt Ideal) ℓ) (c : Dev nD) (t : Fin cfg0.N) : Fin 1024 → Fin 1664 → EReal :=
  fun p j => xm m c ⟨t.val * 1024 + p.val, by have : t.val < 46 := t.isLt; omega⟩ j

/-- A whole buffer owned at a reading is its points-to at some contents with that reading. -/
theorem owns_out (c : Dev nD) {sp : Space} {sh : Shape} {e : EltTy} (M : Memref sig .tc sp sh e) (h : M.IsWhole) (X : sh.Idx → Elt Ideal e) :
    (owns (c : Thread nD τ) M fullShare X : sProp 𝕄) ⊢ iprop(∃ f, ⌜M.view.read (Elt Ideal) f = X⌝ ∗ (M.view.loc (c : Thread nD τ) ↦{fullShare} f)) := by
  unfold owns; rw [h.set_eq_univ]
/-- And back. -/
theorem owns_in (c : Dev nD) {sp : Space} {sh : Shape} {e : EltTy} (M : Memref sig .tc sp sh e) (h : M.IsWhole) (X : sh.Idx → Elt Ideal e) (f)
    (hf : M.view.read (Elt Ideal) f = X) :
    (M.view.loc (c : Thread nD τ) ↦{fullShare} f) ⊢ (owns (c : Thread nD τ) M fullShare X : sProp 𝕄) := by
  unfold owns; rw [h.set_eq_univ]; iintro H; iexists f; isplitr
  · ipureintro; exact hf
  iexact H

/-- The loop's invariant: the four inputs held unchanged, the first `n` groups of every result block finished, both scratch buffers held at some contents. -/
def inv (c : Dev nD) (arg1 : Memref sig .tc .vmem S1024x1664 .bf16) (arg2 : Memref sig .tc .vmem S1x1664 .f32) (arg3 : Memref sig .tc .vmem S1x1664 .f32) (arg4 : Memref sig .tc .vmem S16x1664 .bf16) (arg5 : Memref sig .tc .vmem S1024x1664 .fp8e4m3) (arg6 : Memref sig .tc .vmem S13x1024 .f32) (arg7 : Memref sig .tc .vmem S1664x1024 .fp8e4m3) (arg8 : Memref sig .tc .vmem S8x1664 .f32) (arg9 : Memref sig .tc .vmem S8x128 .f32) (arg10 : Memref sig .tc .vmem S8x128 .f32) (arg11 : Memref sig .tc .vmem S128x1664 .f32) (arg12 : Memref sig .tc .vmem S128x128 .f32) (X1 : Buf (Elt Ideal) (arg1.view.loc (c : Thread nD τ))) (X2 : Buf (Elt Ideal) (arg2.view.loc (c : Thread nD τ))) (X3 : Buf (Elt Ideal) (arg3.view.loc (c : Thread nD τ))) (X4 : Buf (Elt Ideal) (arg4.view.loc (c : Thread nD τ))) (n : ℕ) (_ : Unit) : sProp 𝕄 :=
  iprop(∃ f5 : Buf (Elt Ideal) (arg5.view.loc (c : Thread nD τ)), ∃ f6 : Buf (Elt Ideal) (arg6.view.loc (c : Thread nD τ)), ∃ f7 : Buf (Elt Ideal) (arg7.view.loc (c : Thread nD τ)), ∃ f8 : Buf (Elt Ideal) (arg8.view.loc (c : Thread nD τ)), ∃ f9 : Buf (Elt Ideal) (arg9.view.loc (c : Thread nD τ)), ∃ f10 : Buf (Elt Ideal) (arg10.view.loc (c : Thread nD τ)), ∃ f11 : Buf (Elt Ideal) (arg11.view.loc (c : Thread nD τ)), ∃ f12 : Buf (Elt Ideal) (arg12.view.loc (c : Thread nD τ)), ⌜Good (fun p j => arg1.view.read (Elt Ideal) X1 (ix2 p j)) (fun j => arg2.view.read (Elt Ideal) X2 (ix2 0 j)) (fun j => arg3.view.read (Elt Ideal) X3 (ix2 0 j)) n (arg5.view.read (Elt Ideal) f5) (arg6.view.read (Elt Ideal) f6) (arg7.view.read (Elt Ideal) f7) (arg8.view.read (Elt Ideal) f8) (arg9.view.read (Elt Ideal) f9) (arg10.view.read (Elt Ideal) f10)⌝ ∗ Trip c arg1 arg2 arg3 arg4 arg5 arg6 arg7 arg8 arg9 arg10 arg11 arg12 X1 X2 X3 X4 f5 f6 f7 f8 f9 f10 f11 f12)

/-- One trip keeps the invariant. -/
theorem inv_step (c : Dev nD) (i : grid0.Coords) (arg1 : Memref sig .tc .vmem S1024x1664 .bf16) (harg1 : arg1.IsWhole) (arg2 : Memref sig .tc .vmem S1x1664 .f32) (harg2 : arg2.IsWhole) (arg3 : Memref sig .tc .vmem S1x1664 .f32) (harg3 : arg3.IsWhole) (arg4 : Memref sig .tc .vmem S16x1664 .bf16) (harg4 : arg4.IsWhole) (arg5 : Memref sig .tc .vmem S1024x1664 .fp8e4m3) (harg5 : arg5.IsWhole) (arg6 : Memref sig .tc .vmem S13x1024 .f32) (harg6 : arg6.IsWhole) (arg7 : Memref sig .tc .vmem S1664x1024 .fp8e4m3) (harg7 : arg7.IsWhole) (arg8 : Memref sig .tc .vmem S8x1664 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S128x1664 .f32) (harg11 : arg11.IsWhole) (arg12 : Memref sig .tc .vmem S128x128 .f32) (harg12 : arg12.IsWhole) (X1 : Buf (Elt Ideal) (arg1.view.loc (c : Thread nD τ))) (X2 : Buf (Elt Ideal) (arg2.view.loc (c : Thread nD τ))) (X3 : Buf (Elt Ideal) (arg3.view.loc (c : Thread nD τ))) (X4 : Buf (Elt Ideal) (arg4.view.loc (c : Thread nD τ))) (hH : ∀ (q : Fin 16) (j : Fin 1664), arg4.view.read (Elt Ideal) X4 (ix2 q j) = if j.val / 128 = q.val then (1 : EReal) else 0) (k : Fin k0_t1_loop.trips) (acc : Unit) :
    inv c arg1 arg2 arg3 arg4 arg5 arg6 arg7 arg8 arg9 arg10 arg11 arg12 X1 X2 X3 X4 k.val acc ⊢ wp frame (wpE (defs₀ (F := Ideal)) Variants.none (c : Thread nD τ) none) Set.univ (k0_t1_body (F := Ideal) i arg1 harg1 arg2 harg2 arg3 harg3 arg4 harg4 arg5 harg5 arg6 harg6 arg7 harg7 arg8 harg8 arg9 harg9 arg10 harg10 arg11 harg11 arg12 harg12 k acc)
      (inv c arg1 arg2 arg3 arg4 arg5 arg6 arg7 arg8 arg9 arg10 arg11 arg12 X1 X2 X3 X4 (k.val + 1)) := by
  unfold inv
  iintro ⟨%f5, %f6, %f7, %f8, %f9, %f10, %f11, %f12, %hg, H⟩
  iapply (wp_wand_r frame (wpE (defs₀ (F := Ideal)) Variants.none (c : Thread nD τ) none) Set.univ)
  isplitl [H]
  · iapply ((trip Variants.none c none Set.univ i arg1 harg1 arg2 harg2 arg3 harg3 arg4 harg4 arg5 harg5 arg6 harg6 arg7 harg7 arg8 harg8 arg9 harg9 arg10 harg10 arg11 harg11 arg12 harg12 X1 X2 X3 X4 f12 k).2.2.2.2.2.2.2.2 f5 f6 f7 f8 f9 f10 f11) $$ H
  iintro %_ H
  iexists _, _, _, _, _, _, _, _
  isplitr
  swap
  · iexact H
  ipureintro
  obtain ⟨h5, h6, h7, h8, h9, h10⟩ := hg
  exact ⟨step5 Variants.none c none Set.univ i arg1 harg1 arg2 harg2 arg3 harg3 arg4 harg4 arg5 harg5 arg6 harg6 arg7 harg7 arg8 harg8 arg9 harg9 arg10 harg10 arg11 harg11 arg12 harg12 X1 X2 X3 X4 f12 k hH f5 h5, step6 Variants.none c none Set.univ i arg1 harg1 arg2 harg2 arg3 harg3 arg4 harg4 arg5 harg5 arg6 harg6 arg7 harg7 arg8 harg8 arg9 harg9 arg10 harg10 arg11 harg11 arg12 harg12 X1 X2 X3 X4 f12 k hH f6 h6, step7 Variants.none c none Set.univ i arg1 harg1 arg2 harg2 arg3 harg3 arg4 harg4 arg5 harg5 arg6 harg6 arg7 harg7 arg8 harg8 arg9 harg9 arg10 harg10 arg11 harg11 arg12 harg12 X1 X2 X3 X4 f12 k hH f7 h7, step8 Variants.none c none Set.univ i arg1 harg1 arg2 harg2 arg3 harg3 arg4 harg4 arg5 harg5 arg6 harg6 arg7 harg7 arg8 harg8 arg9 harg9 arg10 harg10 arg11 harg11 arg12 harg12 X1 X2 X3 X4 f12 k hH f8 h8, step9 Variants.none c none Set.univ i arg1 harg1 arg2 harg2 arg3 harg3 arg4 harg4 arg5 harg5 arg6 harg6 arg7 harg7 arg8 harg8 arg9 harg9 arg10 harg10 arg11 harg11 arg12 harg12 X1 X2 X3 X4 f12 k hH f9 h9, step10 Variants.none c none Set.univ i arg1 harg1 arg2 harg2 arg3 harg3 arg4 harg4 arg5 harg5 arg6 harg6 arg7 harg7 arg8 harg8 arg9 harg9 arg10 harg10 arg11 harg11 arg12 harg12 X1 X2 X3 X4 f12 k hH f10 h10⟩

variable (m : (ℓ : Loc nD τ sig) → Buf (Elt Ideal) ℓ) (ρ : Dev nD → PrngReg)

/-- The proof data: arrays as the region finds them, inputs left in place, each result block the stated function of the point's rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out5 (rowsAt m c t) (gm m c) (bm m c)
    | ⟨5, _⟩ => out6 (rowsAt m c t) (gm m c) (bm m c)
    | ⟨6, _⟩ => out7 (rowsAt m c t) (gm m c) (bm m c)
    | ⟨7, _⟩ => out8 (rowsAt m c t) (gm m c) (bm m c)
    | ⟨8, _⟩ => out9 (rowsAt m c t) (gm m c) (bm m c)
    | ⟨9, _⟩ => out10 (rowsAt m c t) (gm m c) (bm m c)
  Φ _ := Pipeline.ΦA spec0 c
  q _ := fullShare
  owed _ := 0

/-- The arrays the pipeline starts from are those the host operations leave. -/
theorem A_eq (c : Dev nD) (w : Fin cfg0.W) : (dats m 0 c).A w = V m c (Pipeline.arrRef spec0 w) := by
  dsimp only [dats]
/-- A step leaves the input row block as it was. -/
theorem after0 (c : Dev nD) (t : Fin cfg0.N) : (dats m 0 c).after 0 t = iblk m c 0 t := by dsimp only [dats]
/-- Before a step the input row block is that of the array. -/
theorem before0 (c : Dev nD) (t : Fin cfg0.N) (d) : (dats m 0 c).before 0 t d = iblk m c 0 t :=
  before0_0_of m (dats m 0 c) (A_eq m c 0) (after0 m c) t d
/-- A step leaves the gamma block as it was. -/
theorem after1 (c : Dev nD) (t : Fin cfg0.N) : (dats m 0 c).after 1 t = iblk m c 1 t := by dsimp only [dats]
/-- Before a step the gamma block is that of the array. -/
theorem before1 (c : Dev nD) (t : Fin cfg0.N) (d) : (dats m 0 c).before 1 t d = iblk m c 1 t :=
  before0_1_of m (dats m 0 c) (A_eq m c 1) (after1 m c) t d
/-- A step leaves the beta block as it was. -/
theorem after2 (c : Dev nD) (t : Fin cfg0.N) : (dats m 0 c).after 2 t = iblk m c 2 t := by dsimp only [dats]
/-- Before a step the beta block is that of the array. -/
theorem before2 (c : Dev nD) (t : Fin cfg0.N) (d) : (dats m 0 c).before 2 t d = iblk m c 2 t :=
  before0_2_of m (dats m 0 c) (A_eq m c 2) (after2 m c) t d
/-- A step leaves the one-hot block as it was. -/
theorem after3 (c : Dev nD) (t : Fin cfg0.N) : (dats m 0 c).after 3 t = iblk m c 3 t := by dsimp only [dats]
/-- Before a step the one-hot block is that of the array. -/
theorem before3 (c : Dev nD) (t : Fin cfg0.N) (d) : (dats m 0 c).before 3 t d = iblk m c 3 t :=
  before0_3_of m (dats m 0 c) (A_eq m c 3) (after3 m c) t d
/-- What a step leaves in the row-code block. -/
theorem after4 (c : Dev nD) (t : Fin cfg0.N) : (dats m 0 c).after 4 t = out5 (rowsAt m c t) (gm m c) (bm m c) := by dsimp only [dats]
/-- What a step leaves in the row-scale block. -/
theorem after5 (c : Dev nD) (t : Fin cfg0.N) : (dats m 0 c).after 5 t = out6 (rowsAt m c t) (gm m c) (bm m c) := by dsimp only [dats]
/-- What a step leaves in the column-code block. -/
theorem after6 (c : Dev nD) (t : Fin cfg0.N) : (dats m 0 c).after 6 t = out7 (rowsAt m c t) (gm m c) (bm m c) := by dsimp only [dats]
/-- What a step leaves in the column-scale block. -/
theorem after7 (c : Dev nD) (t : Fin cfg0.N) : (dats m 0 c).after 7 t = out8 (rowsAt m c t) (gm m c) (bm m c) := by dsimp only [dats]
/-- What a step leaves in the deviation block. -/
theorem after8 (c : Dev nD) (t : Fin cfg0.N) : (dats m 0 c).after 8 t = out9 (rowsAt m c t) (gm m c) (bm m c) := by dsimp only [dats]
/-- What a step leaves in the mean block. -/
theorem after9 (c : Dev nD) (t : Fin cfg0.N) : (dats m 0 c).after 9 t = out10 (rowsAt m c t) (gm m c) (bm m c) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t))

/-- The body at a point: from the inputs' blocks and any results, it ends with the inputs in place and the stated results. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl, after0, after1, after2, after3, after4, after5, after6, after7, after8, after9]
  rw [show (dats m 0 c).Φ t.castSucc = Pipeline.ΦA spec0 c from rfl]
  unfold Pipeline.ΦA
  rw [scopedRest0_eq]
  rw [show (dats m 0 c).owesAt () t.succ = (dats m 0 c).owesAt () t.castSucc from rfl]
  simp only [before0, before1, before2, before3]
  rw [cc0_layernorm_fp8_eq_skeleton]; unfold cc0_layernorm_fp8_skel
  iintro ⟨⟨⟨⟨%s11, S11⟩, ⟨%s12, S12⟩⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave G0 := owns_out c (win0_0.stage (cfg0.slots t 0)) (hstage0_0 ((cfg0.slots t 0).cast nbuf0_0)) _ $$ H0
  icases G0 with ⟨%g0, %e0, G0⟩
  ihave G1 := owns_out c (win0_1.stage (cfg0.slots t 1)) (hstage0_1 ((cfg0.slots t 1).cast nbuf0_1)) _ $$ H1
  icases G1 with ⟨%g1, %e1, G1⟩
  ihave G2 := owns_out c (win0_2.stage (cfg0.slots t 2)) (hstage0_2 ((cfg0.slots t 2).cast nbuf0_2)) _ $$ H2
  icases G2 with ⟨%g2, %e2, G2⟩
  ihave G3 := owns_out c (win0_3.stage (cfg0.slots t 3)) (hstage0_3 ((cfg0.slots t 3).cast nbuf0_3)) _ $$ H3
  icases G3 with ⟨%g3, %e3, G3⟩
  ihave G4 := owns_out c (win0_4.stage (cfg0.slots t 4)) (hstage0_4 ((cfg0.slots t 4).cast nbuf0_4)) _ $$ H4
  icases G4 with ⟨%g4, %e4, G4⟩
  ihave G5 := owns_out c (win0_5.stage (cfg0.slots t 5)) (hstage0_5 ((cfg0.slots t 5).cast nbuf0_5)) _ $$ H5
  icases G5 with ⟨%g5, %e5, G5⟩
  ihave G6 := owns_out c (win0_6.stage (cfg0.slots t 6)) (hstage0_6 ((cfg0.slots t 6).cast nbuf0_6)) _ $$ H6
  icases G6 with ⟨%g6, %e6, G6⟩
  ihave G7 := owns_out c (win0_7.stage (cfg0.slots t 7)) (hstage0_7 ((cfg0.slots t 7).cast nbuf0_7)) _ $$ H7
  icases G7 with ⟨%g7, %e7, G7⟩
  ihave G8 := owns_out c (win0_8.stage (cfg0.slots t 8)) (hstage0_8 ((cfg0.slots t 8).cast nbuf0_8)) _ $$ H8
  icases G8 with ⟨%g8, %e8, G8⟩
  ihave G9 := owns_out c (win0_9.stage (cfg0.slots t 9)) (hstage0_9 ((cfg0.slots t 9).cast nbuf0_9)) _ $$ H9
  icases G9 with ⟨%g9, %e9, G9⟩
  iapply (Scf.wp_for_bind frame (wpE (defs₀ (F := Ideal)) Variants.none (c : Thread nD τ) none) Set.univ k0_t1_loop.lb k0_t1_loop.ub k0_t1_loop.st k0_t1_ok _ _
    (inv c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (Memref.whole cc0_scratch0) (Memref.whole cc0_scratch1) g0 g1 g2 g3)
    (inv_step c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) g0 g1 g2 g3 (fun q j => (congrFun e3 (ix2 q j)).trans (blk3 m c t q j)))) $$ [G0 G1 G2 G3 G4 G5 G6 G7 G8 G9 S11 S12]
  · unfold inv
    iexists g4, g5, g6, g7, g8, g9, s11, s12
    isplitr
    · ipureintro
      exact ⟨fun a b h => absurd h (by omega), fun a b h => absurd h (by omega), fun a b h => absurd h (by omega), fun a b h => absurd h (by omega), fun a b h => absurd h (by omega), fun a b h => absurd h (by omega)⟩
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [S11]; · iexact S11
    iexact S12
  iintro %_ H
  unfold inv
  icases H with ⟨%f5, %f6, %f7, %f8, %f9, %f10, %f11, %f12, %hg, K0, K1, K2, K3, K4, K5, K6, K7, K8, K9, K10, K11⟩
  rw [show (fun p j => (win0_0.stage (cfg0.slots t 0)).view.read (Elt Ideal) g0 (ix2 p j)) = rowsAt m c t from funext fun p => funext fun j => (congrFun e0 (ix2 p j)).trans (blk0 m c t p j _),
    show (fun j => (win0_1.stage (cfg0.slots t 1)).view.read (Elt Ideal) g1 (ix2 0 j)) = gm m c from funext fun j => (congrFun e1 (ix2 0 j)).trans (blk1 m c t j),
    show (fun j => (win0_2.stage (cfg0.slots t 2)).view.read (Elt Ideal) g2 (ix2 0 j)) = bm m c from funext fun j => (congrFun e2 (ix2 0 j)).trans (blk2 m c t j)] at hg
  obtain ⟨r4, r5, r6, r7, r8, r9⟩ := hg.all (by decide)
  rw [Prog.pure_eq_ret, wp_ret]; imodintro
  isplitl [K10 K11 Hg]
  · isplitl [K10 K11]
    · isplitl [K10]
      · iexists _; iexact K10
      iexists _; iexact K11
    iexact Hg
  isplitl [HW]; · iexact HW
  isplitl [K0]
  · iapply (owns_in c (win0_0.stage (cfg0.slots t 0)) (hstage0_0 ((cfg0.slots t 0).cast nbuf0_0)) _ _ e0) $$ K0
  isplitl [K1]
  · iapply (owns_in c (win0_1.stage (cfg0.slots t 1)) (hstage0_1 ((cfg0.slots t 1).cast nbuf0_1)) _ _ e1) $$ K1
  isplitl [K2]
  · iapply (owns_in c (win0_2.stage (cfg0.slots t 2)) (hstage0_2 ((cfg0.slots t 2).cast nbuf0_2)) _ _ e2) $$ K2
  isplitl [K3]
  · iapply (owns_in c (win0_3.stage (cfg0.slots t 3)) (hstage0_3 ((cfg0.slots t 3).cast nbuf0_3)) _ _ e3) $$ K3
  isplitl [K4]
  · iapply (owns_in c (win0_4.stage (cfg0.slots t 4)) (hstage0_4 ((cfg0.slots t 4).cast nbuf0_4)) _ _ r4) $$ K4
  isplitl [K5]
  · iapply (owns_in c (win0_5.stage (cfg0.slots t 5)) (hstage0_5 ((cfg0.slots t 5).cast nbuf0_5)) _ _ r5) $$ K5
  isplitl [K6]
  · iapply (owns_in c (win0_6.stage (cfg0.slots t 6)) (hstage0_6 ((cfg0.slots t 6).cast nbuf0_6)) _ _ r6) $$ K6
  isplitl [K7]
  · iapply (owns_in c (win0_7.stage (cfg0.slots t 7)) (hstage0_7 ((cfg0.slots t 7).cast nbuf0_7)) _ _ r7) $$ K7
  isplitl [K8]
  · iapply (owns_in c (win0_8.stage (cfg0.slots t 8)) (hstage0_8 ((cfg0.slots t 8).cast nbuf0_8)) _ _ r8) $$ K8
  iapply (owns_in c (win0_9.stage (cfg0.slots t 9)) (hstage0_9 ((cfg0.slots t 9).cast nbuf0_9)) _ _ r9) $$ K9

/-- The body of the call, at one grid step, is the printed body on the step's blocks. -/
theorem defs₀_row (t : Fin cfg0.N) :
    defs₀ (F := Ideal) .tc cfg0.body (cfg0.bodyArgs t (cfg0.slots t)) = bodyAt0 t := by
  unfold defs₀; rw [Defs.onTc_tc]

/-- Every grid step's body, run on the step's blocks, leaves them as the pipeline's data say. -/
theorem body_obligation (c : Dev nD) : Pipeline.BodyObligationLoose (dats m 0 c) (defs₀ (F := Ideal)) Variants.none () Set.univ := fun t => by
  rw [bigSep_W0, bigSep_W0, defs₀_row]
  exact sound_body m c t

end Cert.KernelIdeal.Hand
-- ==== Proof.Results.lean ====
module

public import proofs.«01_k».proof.Proof.Hot

@[expose] public section

noncomputable section

namespace Cert.Spec

open Idealize.ShloMosaic

/-! # The six results, as functions of the input rows

`sc` gives the scale of a largest magnitude and `iv` the inverse scale. -/

/-- The 128 rows of row group `k`. -/
def grpX (X : Fin 47104 → Fin 1664 → EReal) (k : Fin 368) : Fin 128 → Fin 1664 → EReal := fun r => X ⟨k.val * 128 + r.val, by omega⟩
/-- Row codes. -/
def F0 (iv : EReal → EReal) (X : Fin 47104 → Fin 1664 → EReal) (G B : Fin 1664 → EReal) (i : Fin 47104) (j : Fin 1664) : EReal :=
  clip (yv (X i) G B j * iv (rmax (X i) G B ⟨j.val / 128, by omega⟩))
/-- Row scales. -/
def F1 (sc : EReal → EReal) (X : Fin 47104 → Fin 1664 → EReal) (G B : Fin 1664 → EReal) (i : Fin 47104) (q : Fin 13) : EReal := sc (rmax (X i) G B q)
/-- Column codes, transposed. -/
def F2 (iv : EReal → EReal) (X : Fin 47104 → Fin 1664 → EReal) (G B : Fin 1664 → EReal) (j : Fin 1664) (i : Fin 47104) : EReal :=
  clip (yv (X i) G B j * iv (cmax (grpX X ⟨i.val / 128, by omega⟩) G B j))
/-- Column scales, transposed. -/
def F3 (sc : EReal → EReal) (X : Fin 47104 → Fin 1664 → EReal) (G B : Fin 1664 → EReal) (j : Fin 1664) (k : Fin 368) : EReal := sc (cmax (grpX X k) G B j)

end Cert.Spec
-- ==== Proof.IFinal.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import proofs.«01_k».proof.Proof.IBody
public import proofs.«01_k».proof.Proof.Results
public import Idealize.ShloMosaic.Lib.Pipeline.ValueKit
public import Idealize.ShloMosaic.Lib.Claim
public import proofs.«01_k».proof.Proof.IHost

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Cert.KernelIdeal.Pay

variable (m : (ℓ : Loc nD τ sig) → Buf (Elt Ideal) ℓ) (ρ : Dev nD → PrngReg)

/-! ## The result arrays -/

/-- Row `p` of block `t` is a row of the array. -/
theorem lt1024 (t : Fin cfg0.N) (p : Fin 1024) : t.val * 1024 + p.val < 47104 := by
  have ht : t.val < 46 := t.isLt
  omega
/-- Row group `p` of block `t` is a row group of the array. -/
theorem lt8 (t : Fin cfg0.N) (p : Fin 8) : t.val * 8 + p.val < 368 := by
  have ht : t.val < 46 := t.isLt
  omega

/-- The kernel's row codes. -/
def arr4 (c : Dev nD) (z : S47104x1664.Idx) : Elt Ideal .fp8e4m3 := F0 iK (xm m c) (gm m c) (bm m c) (z 0) (z 1)
/-- The kernel's row scales, transposed. -/
def arr5 (c : Dev nD) (z : S13x47104.Idx) : Elt Ideal .f32 := F1 sK (xm m c) (gm m c) (bm m c) (z 1) (z 0)
/-- The kernel's column codes. -/
def arr6 (c : Dev nD) (z : S1664x47104.Idx) : Elt Ideal .fp8e4m3 := F2 iK (xm m c) (gm m c) (bm m c) (z 0) (z 1)
/-- The kernel's column scales, transposed. -/
def arr7 (c : Dev nD) (z : S368x1664.Idx) : Elt Ideal .f32 := F3 sK (xm m c) (gm m c) (bm m c) (z 1) (z 0)
/-- The kernel's reciprocal deviations. -/
def arr8 (c : Dev nD) (z : S368x128.Idx) : Elt Ideal .f32 := rsig (grpX (xm m c) (z 0) (z 1))
/-- The kernel's means. -/
def arr9 (c : Dev nD) (z : S368x128.Idx) : Elt Ideal .f32 := mean (grpX (xm m c) (z 0) (z 1))

/-- An entry of step `t`'s row-code block is the stated function at the entry's place in the array. -/
theorem pt4 (c : Dev nD) (t : Fin cfg0.N) (p : Fin 1024) (j : Fin 1664) (a : Fin 47104) (b : Fin 1664) (ha : a.val = t.val * 1024 + p.val) (hb : b.val = j.val) :
    T5 (rowsAt m c t) (gm m c) (bm m c) p j = F0 iK (xm m c) (gm m c) (bm m c) a b := by
  have ht : t.val < 46 := t.isLt
  obtain rfl : a = ⟨t.val * 1024 + p.val, lt1024 t p⟩ := Fin.ext ha
  obtain rfl : b = j := Fin.ext hb
  rfl
/-- The array of the row codes at the end. -/
theorem fin4 (c : Dev nD) : (dats m 0 c).arrAt 4 cfg0.N = arr4 m c := by
  refine (dats m 0 c).arrAt_eq_of_covers 4 _ (by decide +kernel) fun t _ y => ?_
  blk_simp
  rw [after4]
  refine pt4 m c t (y 0) (y 1) _ _ ?_ ?_
  · blk_simp [idx t]
  · blk_simp [idx t]

/-- An entry of step `t`'s row-scale block is the stated function at the entry's place in the array. -/
theorem pt5 (c : Dev nD) (t : Fin cfg0.N) (p : Fin 13) (j : Fin 1024) (a : Fin 13) (b : Fin 47104) (ha : a.val = p.val) (hb : b.val = t.val * 1024 + j.val) :
    T6 (rowsAt m c t) (gm m c) (bm m c) p j = F1 sK (xm m c) (gm m c) (bm m c) b a := by
  have ht : t.val < 46 := t.isLt
  obtain rfl : b = ⟨t.val * 1024 + j.val, lt1024 t j⟩ := Fin.ext hb
  obtain rfl : a = p := Fin.ext ha
  rfl
/-- The array of the row scales, transposed at the end. -/
theorem fin5 (c : Dev nD) : (dats m 0 c).arrAt 5 cfg0.N = arr5 m c := by
  refine (dats m 0 c).arrAt_eq_of_covers 5 _ (by decide +kernel) fun t _ y => ?_
  blk_simp
  rw [after5]
  refine pt5 m c t (y 0) (y 1) _ _ ?_ ?_
  · blk_simp [idx t]
  · blk_simp [idx t]

/-- An entry of step `t`'s column-code block is the stated function at the entry's place in the array. -/
theorem pt6 (c : Dev nD) (t : Fin cfg0.N) (p : Fin 1664) (j : Fin 1024) (a : Fin 1664) (b : Fin 47104) (ha : a.val = p.val) (hb : b.val = t.val * 1024 + j.val) :
    T7 (rowsAt m c t) (gm m c) (bm m c) p j = F2 iK (xm m c) (gm m c) (bm m c) a b := by
  have ht : t.val < 46 := t.isLt
  obtain rfl : b = ⟨t.val * 1024 + j.val, lt1024 t j⟩ := Fin.ext hb
  obtain rfl : a = p := Fin.ext ha
  unfold T7 F2
  rw [show grp (rowsAt m c t) ⟨j.val / 128, by omega⟩ = grpX (xm m c) ⟨(t.val * 1024 + j.val) / 128, by omega⟩ from funext fun r => congrArg (xm m c) (Fin.ext (by simp only; omega))]
  rfl
/-- The array of the column codes at the end. -/
theorem fin6 (c : Dev nD) : (dats m 0 c).arrAt 6 cfg0.N = arr6 m c := by
  refine (dats m 0 c).arrAt_eq_of_covers 6 _ (by decide +kernel) fun t _ y => ?_
  blk_simp
  rw [after6]
  refine pt6 m c t (y 0) (y 1) _ _ ?_ ?_
  · blk_simp [idx t]
  · blk_simp [idx t]

/-- An entry of step `t`'s column-scale block is the stated function at the entry's place in the array. -/
theorem pt7 (c : Dev nD) (t : Fin cfg0.N) (p : Fin 8) (j : Fin 1664) (a : Fin 368) (b : Fin 1664) (ha : a.val = t.val * 8 + p.val) (hb : b.val = j.val) :
    T8 (rowsAt m c t) (gm m c) (bm m c) p j = F3 sK (xm m c) (gm m c) (bm m c) b a := by
  have ht : t.val < 46 := t.isLt
  obtain rfl : a = ⟨t.val * 8 + p.val, lt8 t p⟩ := Fin.ext ha
  obtain rfl : b = j := Fin.ext hb
  unfold T8 F3
  rw [show grp (rowsAt m c t) p = grpX (xm m c) ⟨t.val * 8 + p.val, lt8 t p⟩ from funext fun r => congrArg (xm m c) (Fin.ext (by simp only; omega))]
/-- The array of the column scales, transposed at the end. -/
theorem fin7 (c : Dev nD) : (dats m 0 c).arrAt 7 cfg0.N = arr7 m c := by
  refine (dats m 0 c).arrAt_eq_of_covers 7 _ (by decide +kernel) fun t _ y => ?_
  blk_simp
  rw [after7]
  refine pt7 m c t (y 0) (y 1) _ _ ?_ ?_
  · blk_simp [idx t]
  · blk_simp [idx t]

/-- An entry of step `t`'s deviation block is the stated function at the entry's place in the array. -/
theorem pt8 (c : Dev nD) (t : Fin cfg0.N) (p : Fin 8) (j : Fin 128) (a : Fin 368) (b : Fin 128) (ha : a.val = t.val * 8 + p.val) (hb : b.val = j.val) :
    T9 (rowsAt m c t) p j = rsig (grpX (xm m c) a b) := by
  have ht : t.val < 46 := t.isLt
  obtain rfl : a = ⟨t.val * 8 + p.val, lt8 t p⟩ := Fin.ext ha
  obtain rfl : b = j := Fin.ext hb
  unfold T9
  rw [show grp (rowsAt m c t) p = grpX (xm m c) ⟨t.val * 8 + p.val, lt8 t p⟩ from funext fun r => congrArg (xm m c) (Fin.ext (by simp only; omega))]
/-- The array of the reciprocal deviations at the end. -/
theorem fin8 (c : Dev nD) : (dats m 0 c).arrAt 8 cfg0.N = arr8 m c := by
  refine (dats m 0 c).arrAt_eq_of_covers 8 _ (by decide +kernel) fun t _ y => ?_
  blk_simp
  rw [after8]
  refine pt8 m c t (y 0) (y 1) _ _ ?_ ?_
  · blk_simp [idx t]
  · blk_simp [idx t]

/-- An entry of step `t`'s mean block is the stated function at the entry's place in the array. -/
theorem pt9 (c : Dev nD) (t : Fin cfg0.N) (p : Fin 8) (j : Fin 128) (a : Fin 368) (b : Fin 128) (ha : a.val = t.val * 8 + p.val) (hb : b.val = j.val) :
    T10 (rowsAt m c t) p j = mean (grpX (xm m c) a b) := by
  have ht : t.val < 46 := t.isLt
  obtain rfl : a = ⟨t.val * 8 + p.val, lt8 t p⟩ := Fin.ext ha
  obtain rfl : b = j := Fin.ext hb
  unfold T10
  rw [show grp (rowsAt m c t) p = grpX (xm m c) ⟨t.val * 8 + p.val, lt8 t p⟩ from funext fun r => congrArg (xm m c) (Fin.ext (by simp only; omega))]
/-- The array of the means at the end. -/
theorem fin9 (c : Dev nD) : (dats m 0 c).arrAt 9 cfg0.N = arr9 m c := by
  refine (dats m 0 c).arrAt_eq_of_covers 9 _ (by decide +kernel) fun t _ y => ?_
  blk_simp
  rw [after9]
  refine pt9 m c t (y 0) (y 1) _ _ ?_ ?_
  · blk_simp [idx t]
  · blk_simp [idx t]

/-! ## After the host's last lines -/

/-- What the host leaves in `main_v15`. -/
def end15 (c : Dev nD) (z : S47104x13.Idx) : Elt Ideal .f32 := F1 sK (xm m c) (gm m c) (bm m c) (z 0) (z 1)
/-- What the host leaves in `main_v16`. -/
def end16 (c : Dev nD) (z : S1664x368.Idx) : Elt Ideal .f32 := F3 sK (xm m c) (gm m c) (bm m c) (z 0) (z 1)
/-- What the host leaves in `main_v17`. -/
def end17 (c : Dev nD) (z : S47104.Idx) : Elt Ideal .f32 := rsig (xm m c (z 0))
/-- What the host leaves in `main_v18`. -/
def end18 (c : Dev nD) (z : S47104.Idx) : Elt Ideal .f32 := mean (xm m c (z 0))
/-- After the call the host transposes the row scales. -/
theorem tail15 (c : Dev nD) : Pipeline.afterTail₀ cfgs (dats m) 0 (V0 m) [hostOps1] c main_v15 = transpose S47104x13 [1, 0] (arr5 m c) transposes_S13x47104_S47104x13_1_0 := by
  unfold Pipeline.afterTail₀
  simp only [hostOps1, List.flatten_cons, List.flatten_nil, List.append_nil]
  after_results
  rw [Pipeline.withArrays_arr spec0 (by decide) c (V0 m c) _ (5 : Fin 10)]
  rw [fin5] <;> rfl
/-- After the call the host transposes the column scales. -/
theorem tail16 (c : Dev nD) : Pipeline.afterTail₀ cfgs (dats m) 0 (V0 m) [hostOps1] c main_v16 = transpose S1664x368 [1, 0] (arr7 m c) transposes_S368x1664_S1664x368_1_0 := by
  unfold Pipeline.afterTail₀
  simp only [hostOps1, List.flatten_cons, List.flatten_nil, List.append_nil]
  after_results
  rw [Pipeline.withArrays_arr spec0 (by decide) c (V0 m c) _ (7 : Fin 10)]
  rw [fin7] <;> rfl
/-- After the call the host reshapes the reciprocal deviations. -/
theorem tail17 (c : Dev nD) : Pipeline.afterTail₀ cfgs (dats m) 0 (V0 m) [hostOps1] c main_v17 = shapeCast S47104 (arr8 m c) shapeCasts_S368x128_S47104 := by
  unfold Pipeline.afterTail₀
  simp only [hostOps1, List.flatten_cons, List.flatten_nil, List.append_nil]
  after_results
  rw [Pipeline.withArrays_arr spec0 (by decide) c (V0 m c) _ (8 : Fin 10)]
  rw [fin8] <;> rfl
/-- After the call the host reshapes the means. -/
theorem tail18 (c : Dev nD) : Pipeline.afterTail₀ cfgs (dats m) 0 (V0 m) [hostOps1] c main_v18 = shapeCast S47104 (arr9 m c) shapeCasts_S368x128_S47104 := by
  unfold Pipeline.afterTail₀
  simp only [hostOps1, List.flatten_cons, List.flatten_nil, List.append_nil]
  after_results
  rw [Pipeline.withArrays_arr spec0 (by decide) c (V0 m c) _ (9 : Fin 10)]
  rw [fin9] <;> rfl

/-- Transposed, the row scales are the stated function. -/
theorem e15 (c : Dev nD) : transpose S47104x13 [1, 0] (arr5 m c) transposes_S13x47104_S47104x13_1_0 = end15 m c := by
  refine ext2 fun a b => ?_
  pointwise [arr5, end15]
/-- Transposed, the column scales are the stated function. -/
theorem e16 (c : Dev nD) : transpose S1664x368 [1, 0] (arr7 m c) transposes_S368x1664_S1664x368_1_0 = end16 m c := by
  refine ext2 fun a b => ?_
  pointwise [arr7, end16]

/-- Two functions of one index agree when they agree at every index. -/
theorem ext1 {α : Type} {n : ℕ} {f g : (⟨1, ![n]⟩ : Shape).Idx → α} (h : ∀ a, f (ix1 a) = g (ix1 a)) : f = g := by
  funext y
  have e : y = ix1 (y 0) := funext fun a => match a with
    | ⟨0, _⟩ => rfl
  rw [e]; exact h _
/-- Reshaped, the reciprocal deviations are the stated function. -/
theorem e17 (c : Dev nD) : shapeCast S47104 (arr8 m c) shapeCasts_S368x128_S47104 = end17 m c := by
  refine ext1 fun a => ?_
  pointwise
  exact congrArg (fun i => rsig (xm m c i)) (Fin.ext (Nat.div_add_mod' a.val 128))
/-- Reshaped, the means are the stated function. -/
theorem e18 (c : Dev nD) : shapeCast S47104 (arr9 m c) shapeCasts_S368x128_S47104 = end18 m c := by
  refine ext1 fun a => ?_
  pointwise
  exact congrArg (fun i => mean (xm m c i)) (Fin.ext (Nat.div_add_mod' a.val 128))

set_option backward.isDefEq.respectTransparency.types false in
/-- THE RUN: the program runs, every result buffer ends at the stated function of the arguments, the argument arrays end unchanged and every counter is at zero. -/
theorem run : θ_run defs (onTc (τ := τ) (main (F := Ideal))) ⟨m, fun _ => 0, ρ⟩ (fun r => (∀ c : Dev nD,
      r.2.mem ((c.tc : Thread nD τ).loc main_v14_0) = arr4 m c
      ∧ r.2.mem ((c.tc : Thread nD τ).loc main_v15) = end15 m c
      ∧ r.2.mem ((c.tc : Thread nD τ).loc main_v14_2) = arr6 m c
      ∧ r.2.mem ((c.tc : Thread nD τ).loc main_v16) = end16 m c
      ∧ r.2.mem ((c.tc : Thread nD τ).loc main_v17) = end17 m c
      ∧ r.2.mem ((c.tc : Thread nD τ).loc main_v18) = end18 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (Q' := _)
    (hQ' := fun r h => ⟨fun c => ⟨
      ((h.1 c).1 4).trans (fin4 m c),
      ((h.1 c).2 main_v15 (Pipeline.mem_restRefs_of main_v15 (by decide) (by decide))).trans ((tail15 m c).trans (e15 m c)),
      ((h.1 c).1 6).trans (fin6 m c),
      ((h.1 c).2 main_v16 (Pipeline.mem_restRefs_of main_v16 (by decide) (by decide))).trans ((tail16 m c).trans (e16 m c)),
      ((h.1 c).2 main_v17 (Pipeline.mem_restRefs_of main_v17 (by decide) (by decide))).trans ((tail17 m c).trans (e17 m c)),
      ((h.1 c).2 main_v18 (Pipeline.mem_restRefs_of main_v18 (by decide) (by decide))).trans ((tail18 m c).trans (e18 m c)),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩, h.2⟩)

end Cert.KernelIdeal.Hand
-- ==== Proof.Ref.lean ====
module

public import proofs.«01_k».proof.Proof.Gen.ReferenceIdeal.Run
public import proofs.«01_k».proof.Proof.Results
public import Idealize.ShloMosaic.Lib.Pointwise

@[expose] public section

set_option maxRecDepth 16384
set_option maxHeartbeats 4000000

noncomputable section

namespace Cert.ReferenceIdeal.Pay

open Cert.ReferenceIdeal Cert.ReferenceIdeal.Gen
open Idealize.ShloMosaic Idealize.ShloMosaic.TcCoe
open Cert.Spec

/-! # The reference's results, read at an index -/

/-! ## Its arrays, step by step -/

variable (x : Vec Ideal S23x2048x1664 .bf16) (g b : Vec Ideal S1664 .bf16)

/-- The input rows. -/
def xs : FVec Ideal S47104x1664 .f32 := extf .f32 (shapeCast _ x shapeCasts_S23x2048x1664_S47104x1664) bitsLt_bf16_f32
/-- The row means. -/
def mn : FVec Ideal S47104 .f32 := Host.divf (Host.reduceAdd (xs x) (constant S_ .f32 0x00000000#32) reducesTo_S47104x1664_S47104_d1 h_S_) (broadcastInDim S47104 ![] bcast_S_S47104 (constant S_ .f32 0x44D00000#32))
/-- The centred rows. -/
def xc : FVec Ideal S47104x1664 .f32 := subf (xs x) (broadcastInDim S47104x1664 ![0, 1] bcast_S47104x1_S47104x1664_0_1 (broadcastInDim S47104x1 ![0] bcast_S47104_S47104x1_0 (mn x)))
/-- The reciprocal deviations. -/
def rs : FVec Ideal S47104 .f32 := Host.rsqrt (addf (Host.divf (Host.reduceAdd (mulf (xc x) (xc x)) (constant S_ .f32 0x00000000#32) reducesTo_S47104x1664_S47104_d1 h_S_) (broadcastInDim S47104 ![] bcast_S_S47104 (constant S_ .f32 0x44D00000#32))) (broadcastInDim S47104 ![] bcast_S_S47104 (constant S_ .f32 0x3727C5AC#32)))
/-- The normalised rows. -/
def yy : FVec Ideal S47104x1664 .f32 := addf (mulf (mulf (xc x) (broadcastInDim S47104x1664 ![0, 1] bcast_S47104x1_S47104x1664_0_1 (broadcastInDim S47104x1 ![0] bcast_S47104_S47104x1_0 (rs x)))) (broadcastInDim S47104x1664 ![0, 1] bcast_S1x1664_S47104x1664_0_1 (broadcastInDim S1x1664 ![1] bcast_S1664_S1x1664_1 (extf .f32 g bitsLt_bf16_f32)))) (broadcastInDim S47104x1664 ![0, 1] bcast_S1x1664_S47104x1664_0_1 (broadcastInDim S1x1664 ![1] bcast_S1664_S1x1664_1 (extf .f32 b bitsLt_bf16_f32)))

/-- The reshaped input, by row and column. -/
theorem xs_at (i : Fin 47104) (j : Fin 1664) : xs x (ix2 i j) = xOf x i j := by
  pointwise [xs, xOf]
/-- The reference's mean of a row. -/
theorem mn_at (i : Fin 47104) : mn x (ix1 i) = mean (xOf x i) := by
  unfold mean
  simp only [← xs_at]
  generalize hX : xs x = X
  unfold mn
  rw [hX]
  pointwise
/-- A row less its mean. -/
theorem xc_at (i : Fin 47104) (j : Fin 1664) : xc x (ix2 i j) = xOf x i j - mean (xOf x i) := by
  rw [← mn_at, ← xs_at]
  unfold xc
  generalize xs x = X
  generalize mn x = M
  pointwise
/-- The reference's reciprocal deviation of a row. -/
theorem rs_at (i : Fin 47104) : rs x (ix1 i) = rsig (xOf x i) := by
  unfold rsig
  simp only [← xc_at]
  unfold rs
  generalize xc x = X
  pointwise
/-- The reference's normalised row. -/
theorem yy_at (i : Fin 47104) (j : Fin 1664) : yy x g b (ix2 i j) = yv (xOf x i) (gOf g) (gOf b) j := by
  unfold yv
  rw [← xc_at, ← rs_at]
  unfold yy gOf
  generalize xc x = X
  generalize rs x = R
  pointwise

/-! ## The quantiser -/

section
variable (y : FVec Ideal S47104x1664 .f32)
/-- The group maxima of the rows. -/
def rm : FVec Ideal S47104x13 .f32 := Host.reduce FloatOps.maximumf (Host.absf (shapeCast _ y shapeCasts_S47104x1664_S47104x13x128)) (constant S_ .f32 0xFF800000#32) reducesTo_S47104x13x128_S47104x13_d2 h_S_
/-- The column maxima over row groups. -/
def cm : FVec Ideal S368x1664 .f32 := Host.reduce FloatOps.maximumf (Host.absf (shapeCast _ y shapeCasts_S47104x1664_S368x128x1664)) (constant S_ .f32 0xFF800000#32) reducesTo_S368x128x1664_S368x1664_d1 h_S_
/-- The largest magnitude of a row group. -/
theorem rm_at (i : Fin 47104) (q : Fin 13) : rm y (ix2 i q) = top fun l : Fin 128 => FloatOps.absf (F := Ideal) (φ := .f32) (y (ix2 i ⟨q.val * 128 + l.val, by omega⟩)) := by
  pointwise [rm, top]
/-- The largest magnitude of a column over 128 rows. -/
theorem cm_at (k : Fin 368) (j : Fin 1664) : cm y (ix2 k j) = top fun r : Fin 128 => FloatOps.absf (F := Ideal) (φ := .f32) (y (ix2 ⟨k.val * 128 + r.val, by omega⟩ j)) := by
  pointwise [cm, top]
end

/-- The row exponents. -/
def ex1 (a : FVec Ideal S47104x13 .f32) : FVec Ideal S47104x13 .f32 := select (cmpf .olt (mulf a (broadcastInDim S47104x13 ![] bcast_S_S47104x13 (constant S_ .f32 0x3B124925#32))) (broadcastInDim S47104x13 ![] bcast_S_S47104x13 (constant S_ .f32 0x00800000#32))) (broadcastInDim S47104x13 ![] bcast_S_S47104x13 (id (constant S_ .f32 0x00000000#32))) (addf (Host.floor (Host.divf (Host.log (mulf a (broadcastInDim S47104x13 ![] bcast_S_S47104x13 (constant S_ .f32 0x3B124925#32)))) (broadcastInDim S47104x13 ![] bcast_S_S47104x13 (Host.log (constant S_ .f32 0x40000000#32))))) (broadcastInDim S47104x13 ![] bcast_S_S47104x13 (constant S_ .f32 0x3F800000#32)))
/-- The column exponents. -/
def ex2 (a : FVec Ideal S368x1664 .f32) : FVec Ideal S368x1664 .f32 := select (cmpf .olt (mulf a (broadcastInDim S368x1664 ![] bcast_S_S368x1664 (constant S_ .f32 0x3B124925#32))) (broadcastInDim S368x1664 ![] bcast_S_S368x1664 (constant S_ .f32 0x00800000#32))) (broadcastInDim S368x1664 ![] bcast_S_S368x1664 (id (constant S_ .f32 0x00000000#32))) (addf (Host.floor (Host.divf (Host.log (mulf a (broadcastInDim S368x1664 ![] bcast_S_S368x1664 (constant S_ .f32 0x3B124925#32)))) (broadcastInDim S368x1664 ![] bcast_S_S368x1664 (Host.log (constant S_ .f32 0x40000000#32))))) (broadcastInDim S368x1664 ![] bcast_S_S368x1664 (constant S_ .f32 0x3F800000#32)))

/-- The exponents of the row groups. -/
theorem ex1_at (a : FVec Ideal S47104x13 .f32) (i : Fin 47104) (q : Fin 13) : ex1 a (ix2 i q) = eR (a (ix2 i q)) := by
  unfold ex1
  simp only [id_eq]
  pointwise [eR]
/-- The exponents of the columns. -/
theorem ex2_at (a : FVec Ideal S368x1664 .f32) (k : Fin 368) (j : Fin 1664) : ex2 a (ix2 k j) = eR (a (ix2 k j)) := by
  unfold ex2
  simp only [id_eq]
  pointwise [eR]

/-- The row scales. -/
def sc1 (e : FVec Ideal S47104x13 .f32) : FVec Ideal S47104x13 .f32 := Host.powf (broadcastInDim S47104x13 ![] bcast_S_S47104x13 (constant S_ .f32 0x40000000#32)) e
/-- The column scales. -/
def sc2 (e : FVec Ideal S368x1664 .f32) : FVec Ideal S368x1664 .f32 := Host.powf (broadcastInDim S368x1664 ![] bcast_S_S368x1664 (constant S_ .f32 0x40000000#32)) e
/-- The scales of the row groups. -/
theorem sc1_at (a : FVec Ideal S47104x13 .f32) (i : Fin 47104) (q : Fin 13) : sc1 (ex1 a) (ix2 i q) = sR (a (ix2 i q)) := by
  unfold sR
  rw [← ex1_at]
  generalize ex1 a = e
  pointwise [sc1]
/-- The inverse scales of the row groups. -/
theorem sc1n_at (a : FVec Ideal S47104x13 .f32) (i : Fin 47104) (q : Fin 13) : sc1 (Host.negf (ex1 a)) (ix2 i q) = iR (a (ix2 i q)) := by
  unfold iR
  rw [← ex1_at]
  generalize ex1 a = e
  pointwise [sc1]
/-- The scales of the columns. -/
theorem sc2_at (a : FVec Ideal S368x1664 .f32) (i : Fin 368) (q : Fin 1664) : sc2 (ex2 a) (ix2 i q) = sR (a (ix2 i q)) := by
  unfold sR
  rw [← ex2_at]
  generalize ex2 a = e
  pointwise [sc2]
/-- The inverse scales of the columns. -/
theorem sc2n_at (a : FVec Ideal S368x1664 .f32) (i : Fin 368) (q : Fin 1664) : sc2 (Host.negf (ex2 a)) (ix2 i q) = iR (a (ix2 i q)) := by
  unfold iR
  rw [← ex2_at]
  generalize ex2 a = e
  pointwise [sc2]

/-- The one-hot table of the groups. -/
def hotR : FVec Ideal S13x1664 .bf16 := uitofp .bf16 (cmpi .eq (broadcastInDim S13x1664 ![0, 1] bcast_S1x1664_S13x1664_0_1 (select (andi (cmpi .ne (signi (broadcastInDim S1x1664 ![1] bcast_S1664_S1x1664_1 (iotaInDim S1664 32 0))) (broadcastInDim S1x1664 ![] bcast_S_S1x1664 (signi (id (constantI S_ 32 128#32))))) (cmpi .ne (Host.remsi (broadcastInDim S1x1664 ![1] bcast_S1664_S1x1664_1 (iotaInDim S1664 32 0)) (broadcastInDim S1x1664 ![] bcast_S_S1x1664 (id (constantI S_ 32 128#32)))) (broadcastInDim S1x1664 ![] bcast_S_S1x1664 (constantI S_ 32 0#32)))) (subi (Host.divsi (broadcastInDim S1x1664 ![1] bcast_S1664_S1x1664_1 (iotaInDim S1664 32 0)) (broadcastInDim S1x1664 ![] bcast_S_S1x1664 (id (constantI S_ 32 128#32)))) (broadcastInDim S1x1664 ![] bcast_S_S1x1664 (constantI S_ 32 1#32))) (Host.divsi (broadcastInDim S1x1664 ![1] bcast_S1664_S1x1664_1 (iotaInDim S1664 32 0)) (broadcastInDim S1x1664 ![] bcast_S_S1x1664 (id (constantI S_ 32 128#32)))))) (broadcastInDim S13x1664 ![0, 1] bcast_S13x1_S13x1664_0_1 (broadcastInDim S13x1 ![0] bcast_S13_S13x1_0 (iotaInDim S13 32 0))))
/-- The reference's one-hot array. -/
theorem hotR_at (q : Fin 13) (j : Fin 1664) : hotR (ix2 q j) = if j.val / 128 = q.val then (1 : EReal) else 0 := by
  unfold hotR
  simp only [id_eq]
  pointwise
  exact hot ⟨q.val, by omega⟩ j

/-- The one-hot product, as a sum over the groups. -/
theorem dot_at (L : FVec Ideal S47104x13 .bf16) (R : FVec Ideal S13x1664 .bf16) (i : Fin 47104) (j : Fin 1664) :
    Host.dotGeneral (F := Ideal) dot_S47104x13_S13x1664_S47104x1664_1_0_0_1_n_n none L R (ix2 i j) = ∑ q : Fin 13, L (ix2 i q) * R (ix2 q j) := by
  pointwise
/-- The inverse scales, expanded to the columns. -/
theorem exp_at (s : FVec Ideal S47104x13 .f32) (i : Fin 47104) (j : Fin 1664) :
    Host.dotGeneral (F := Ideal) dot_S47104x13_S13x1664_S47104x1664_1_0_0_1_n_n none (truncf .bf16 s bitsLt_bf16_f32) hotR (ix2 i j) = s (ix2 i ⟨j.val / 128, by omega⟩) := by
  rw [dot_at, Finset.sum_eq_single (⟨j.val / 128, by omega⟩ : Fin 13)]
  · rw [hotR_at, if_pos rfl, mul_one]; rfl
  · intro q _ hq
    rw [hotR_at, if_neg (fun h => hq (Fin.ext h.symm)), mul_zero]
  · intro h; exact absurd (Finset.mem_univ _) h

/-- The row codes. -/
def cd1 (y e : FVec Ideal S47104x1664 .f32) : FVec Ideal S47104x1664 .fp8e4m3 := Host.convertf .fp8e4m3 (minimumf (broadcastInDim S47104x1664 ![] bcast_S_S47104x1664 (id (constant S_ .f32 0x43E00000#32))) (maximumf (broadcastInDim S47104x1664 ![] bcast_S_S47104x1664 (id (constant S_ .f32 0xC3E00000#32))) (mulf y e)))
/-- The clipped row codes. -/
theorem cd1_at (y e : FVec Ideal S47104x1664 .f32) (i : Fin 47104) (j : Fin 1664) : cd1 y e (ix2 i j) = clip (y (ix2 i j) * e (ix2 i j)) := by
  unfold cd1
  simp only [id_eq]
  pointwise [clip]
/-- The column codes. -/
def cd2 (y : FVec Ideal S47104x1664 .f32) (e : FVec Ideal S368x1664 .f32) : FVec Ideal S1664x47104 .fp8e4m3 := transpose S1664x47104 [1, 0] (shapeCast _ (Host.convertf .fp8e4m3 (minimumf (broadcastInDim S368x128x1664 ![] bcast_S_S368x128x1664 (id (constant S_ .f32 0x43E00000#32))) (maximumf (broadcastInDim S368x128x1664 ![] bcast_S_S368x128x1664 (id (constant S_ .f32 0xC3E00000#32))) (mulf (shapeCast _ y shapeCasts_S47104x1664_S368x128x1664) (broadcastInDim S368x128x1664 ![0, 1, 2] bcast_S368x1x1664_S368x128x1664_0_1_2 (broadcastInDim S368x1x1664 ![0, 2] bcast_S368x1664_S368x1x1664_0_2 e)))))) shapeCasts_S368x128x1664_S47104x1664) transposes_S47104x1664_S1664x47104_1_0
/-- The clipped and transposed column codes. -/
theorem cd2_at (y : FVec Ideal S47104x1664 .f32) (e : FVec Ideal S368x1664 .f32) (j : Fin 1664) (i : Fin 47104) : cd2 y e (ix2 j i) = clip (y (ix2 i j) * e (ix2 ⟨i.val / 128, by omega⟩ j)) := by
  unfold cd2
  simp only [id_eq]
  pointwise [clip]

/-! ## The results -/

variable (m : (ℓ : Loc nD τ sig) → Buf (Elt Ideal) ℓ) (c : Dev nD)

/-- The row codes as the named pieces. -/
theorem out0_eq : Value.res_main_v58 m c = cd1 (yy (m ((c.tc : Thread nD τ).loc main_arg0)) (m ((c.tc : Thread nD τ).loc main_arg1)) (m ((c.tc : Thread nD τ).loc main_arg2))) (Host.dotGeneral dot_S47104x13_S13x1664_S47104x1664_1_0_0_1_n_n none (truncf .bf16 (sc1 (Host.negf (ex1 (rm (yy (m ((c.tc : Thread nD τ).loc main_arg0)) (m ((c.tc : Thread nD τ).loc main_arg1)) (m ((c.tc : Thread nD τ).loc main_arg2))))))) bitsLt_bf16_f32) hotR) := by
  unfold Value.res_main_v58; rfl
/-- The row scales as the named pieces. -/
theorem out1_eq : Value.res_main_v42 m c = sc1 (ex1 (rm (yy (m ((c.tc : Thread nD τ).loc main_arg0)) (m ((c.tc : Thread nD τ).loc main_arg1)) (m ((c.tc : Thread nD τ).loc main_arg2))))) := by
  unfold Value.res_main_v42; rfl
/-- The column codes as the named pieces. -/
theorem out2_eq : Value.res_main_v84 m c = cd2 (yy (m ((c.tc : Thread nD τ).loc main_arg0)) (m ((c.tc : Thread nD τ).loc main_arg1)) (m ((c.tc : Thread nD τ).loc main_arg2))) (sc2 (Host.negf (ex2 (cm (yy (m ((c.tc : Thread nD τ).loc main_arg0)) (m ((c.tc : Thread nD τ).loc main_arg1)) (m ((c.tc : Thread nD τ).loc main_arg2))))))) := by
  unfold Value.res_main_v84; rfl
/-- The column scales as the named pieces. -/
theorem out3_eq : Value.res_main_v85 m c = transpose S1664x368 [1, 0] (sc2 (ex2 (cm (yy (m ((c.tc : Thread nD τ).loc main_arg0)) (m ((c.tc : Thread nD τ).loc main_arg1)) (m ((c.tc : Thread nD τ).loc main_arg2)))))) transposes_S368x1664_S1664x368_1_0 := by
  unfold Value.res_main_v85; rfl

/-- The largest magnitude of a group of the normalised row. -/
theorem rm_yy (i : Fin 47104) (q : Fin 13) : rm (yy x g b) (ix2 i q) = rmax (xOf x i) (gOf g) (gOf b) q := by
  rw [rm_at]; simp only [yy_at]; rfl
/-- The largest magnitude of a column of the normalised rows. -/
theorem cm_yy (k : Fin 368) (j : Fin 1664) : cm (yy x g b) (ix2 k j) = cmax (grpX (xOf x) k) (gOf g) (gOf b) j := by
  rw [cm_at]; simp only [yy_at]; rfl

/-- The reference's row codes are the stated function. -/
theorem out0_at (i : Fin 47104) (j : Fin 1664) : Value.res_main_v58 m c (ix2 i j) = F0 iR (xOf (m ((c.tc : Thread nD τ).loc main_arg0))) (gOf (m ((c.tc : Thread nD τ).loc main_arg1))) (gOf (m ((c.tc : Thread nD τ).loc main_arg2))) i j := by
  rw [out0_eq]
  refine (cd1_at _ _ i j).trans ?_
  rw [yy_at, exp_at, sc1n_at, rm_yy]; rfl
/-- The reference's row scales are the stated function. -/
theorem out1_at (i : Fin 47104) (q : Fin 13) : Value.res_main_v42 m c (ix2 i q) = F1 sR (xOf (m ((c.tc : Thread nD τ).loc main_arg0))) (gOf (m ((c.tc : Thread nD τ).loc main_arg1))) (gOf (m ((c.tc : Thread nD τ).loc main_arg2))) i q := by
  rw [out1_eq]
  refine (sc1_at _ i q).trans ?_
  rw [rm_yy]; rfl
/-- The reference's column codes are the stated function. -/
theorem out2_at (j : Fin 1664) (i : Fin 47104) : Value.res_main_v84 m c (ix2 j i) = F2 iR (xOf (m ((c.tc : Thread nD τ).loc main_arg0))) (gOf (m ((c.tc : Thread nD τ).loc main_arg1))) (gOf (m ((c.tc : Thread nD τ).loc main_arg2))) j i := by
  rw [out2_eq]
  refine (cd2_at _ _ j i).trans ?_
  rw [yy_at, sc2n_at, cm_yy]; rfl
/-- The transposed column scales. -/
theorem tr_at (s : FVec Ideal S368x1664 .f32) (j : Fin 1664) (k : Fin 368) : transpose S1664x368 [1, 0] s transposes_S368x1664_S1664x368_1_0 (ix2 j k) = s (ix2 k j) := by
  pointwise
/-- The reference's column scales are the stated function. -/
theorem out3_at (j : Fin 1664) (k : Fin 368) : Value.res_main_v85 m c (ix2 j k) = F3 sR (xOf (m ((c.tc : Thread nD τ).loc main_arg0))) (gOf (m ((c.tc : Thread nD τ).loc main_arg1))) (gOf (m ((c.tc : Thread nD τ).loc main_arg2))) j k := by
  rw [out3_eq]
  refine (tr_at _ j k).trans ?_
  rw [sc2_at, cm_yy]; rfl

end Cert.ReferenceIdeal.Pay
-- ==== Proof.Bound.lean ====
module

public import proofs.«01_k».proof.Proof.Results

@[expose] public section

noncomputable section

/-! # The magnitudes the scales are taken at

A normalised row lies within ±41 before the affine step whatever the input row is, infinite entries included. With
finite `gamma` and `beta` of the 16-bit format the values then lie below `42 · 2^128`, where the kernel's scale and the reference's
agree. -/
namespace Cert.Spec

open Idealize.ShloMosaic

/-- The word of 1664. -/
theorem ofBits_1664 : Ideal.ofBits .f32 0x44D00000#32 = ((1664 : ℝ) : EReal) := by
  unfold Ideal.ofBits Ideal.ieee
  have h1 : ((0x44D00000#32).extractLsb' 23 8).toNat = 137 := by decide
  have h2 : ((0x44D00000#32).extractLsb' 0 23).toNat = 5242880 := by decide
  have h3 : ((0x44D00000#32).extractLsb' 31 1 == 1#1) = false := by decide
  simp only [Nat.reduceAdd]
  rw [h1, h2, h3]; norm_num

/-- The word of the epsilon under the root denotes a positive real. -/
theorem ofBits_eps : Ideal.ofBits .f32 0x3727C5AC#32 = ((10995116 * (2 : ℝ) ^ (-40 : ℤ) : ℝ) : EReal) := by
  unfold Ideal.ofBits Ideal.ieee
  have h1 : ((0x3727C5AC#32).extractLsb' 23 8).toNat = 110 := by decide
  have h2 : ((0x3727C5AC#32).extractLsb' 0 23).toNat = 2606508 := by decide
  have h3 : ((0x3727C5AC#32).extractLsb' 31 1 == 1#1) = false := by decide
  simp only [Nat.reduceAdd]
  rw [h1, h2, h3]; norm_num

/-- The largest finite value of the 16-bit format. -/
def BM : ℝ := 16711680 * (2 : ℝ) ^ (104 : ℤ)

/-- The word of the largest finite value of the 16-bit format. -/
theorem ofBits_bm : Ideal.ofBits .f32 0x7F7F0000#32 = ((BM : ℝ) : EReal) := by
  unfold Ideal.ofBits Ideal.ieee BM
  have h1 : ((0x7F7F0000#32).extractLsb' 23 8).toNat = 254 := by decide
  have h2 : ((0x7F7F0000#32).extractLsb' 0 23).toNat = 8323072 := by decide
  have h3 : ((0x7F7F0000#32).extractLsb' 31 1 == 1#1) = false := by decide
  simp only [Nat.reduceAdd]
  rw [h1, h2, h3]; norm_num

/-- The word of minus infinity. -/
theorem ofBits_negInf : Ideal.ofBits .f32 0xFF800000#32 = ⊥ := by
  unfold Ideal.ofBits Ideal.ieee
  have h1 : ((0xFF800000#32).extractLsb' 23 8).toNat = 255 := by decide
  have h2 : ((0xFF800000#32).extractLsb' 0 23).toNat = 0 := by decide
  have h3 : ((0xFF800000#32).extractLsb' 31 1 == 1#1) = true := by decide
  simp only [Nat.reduceAdd]
  rw [h1, h2, h3]; norm_num

/-- A square is not negative. -/
theorem sq_nonneg_ereal (d : EReal) : 0 ≤ d * d := by
  induction d with
  | bot => simp
  | top => simp
  | coe r => rw [← EReal.coe_mul]; exact_mod_cast mul_self_nonneg r

/-- A sum of real numbers, read as an extended real, is the sum of the terms so read. -/
theorem coe_sum_fin {n : ℕ} (r : Fin n → ℝ) : (∑ j, ((r j : ℝ) : EReal)) = ((∑ j, r j : ℝ) : EReal) :=
  (map_sum (⟨⟨fun x : ℝ => (x : EReal), EReal.coe_zero⟩, EReal.coe_add⟩ : ℝ →+ EReal) r Finset.univ).symm

/-- A deviation over the row's deviation is a real number of magnitude at most 41. -/
theorem dev_bound (d : Fin 1664 → EReal) (j : Fin 1664) :
    ∃ t : ℝ, d j * Ideal.rsqrt (Ideal.div (∑ i, d i * d i) (Ideal.ofBits .f32 0x44D00000#32) + Ideal.ofBits .f32 0x3727C5AC#32) = (t : EReal) ∧ |t| ≤ 41 := by
  rw [ofBits_1664, ofBits_eps, Ideal.div_coe (by norm_num)]
  by_cases h : ∃ i, d i = ⊤ ∨ d i = ⊥
  · obtain ⟨i, hi⟩ := h
    have hs : (∑ i, d i * d i) = ⊤ := by
      have h1 : d i * d i = ⊤ := by rcases hi with hi | hi <;> rw [hi] <;> simp
      have h2 := Finset.single_le_sum (f := fun i => d i * d i) (fun k _ => sq_nonneg_ereal (d k)) (Finset.mem_univ i)
      exact top_le_iff.mp (h1 ▸ h2)
    refine ⟨0, ?_, by norm_num⟩
    rw [hs, EReal.top_mul_coe_of_pos (by norm_num), EReal.top_add_coe, Ideal.rsqrt_top, mul_zero]; rfl
  · push Not at h
    choose hT hB using h
    obtain ⟨r, hr⟩ : ∃ r : Fin 1664 → ℝ, ∀ i, d i = (r i : EReal) := ⟨fun i => (d i).toReal, fun i => (EReal.coe_toReal (hT i) (hB i)).symm⟩
    have hs : (∑ i, d i * d i) = ((∑ i, r i * r i : ℝ) : EReal) := by
      rw [← coe_sum_fin]; exact Finset.sum_congr rfl fun i _ => by rw [hr, ← EReal.coe_mul]
    have hle : r j * r j ≤ ∑ i, r i * r i := Finset.single_le_sum (f := fun i => r i * r i) (fun k _ => mul_self_nonneg (r k)) (Finset.mem_univ j)
    have h0 : 0 ≤ ∑ i, r i * r i := Finset.sum_nonneg fun k _ => mul_self_nonneg (r k)
    have he : (0 : ℝ) < 10995116 * (2 : ℝ) ^ (-40 : ℤ) := by positivity
    rw [hs, ← EReal.coe_mul, ← EReal.coe_add]
    generalize (∑ i, r i * r i) = S at hle h0
    generalize (10995116 * (2 : ℝ) ^ (-40 : ℤ) : ℝ) = e at he
    have hv : 0 < S * (1 / 1664) + e := by positivity
    rw [Ideal.rsqrt_coe, if_neg (not_lt.2 hv.le), if_neg hv.ne', hr j, ← EReal.coe_mul]
    refine ⟨_, rfl, ?_⟩
    have hq : 0 < Real.sqrt (S * (1 / 1664) + e) := Real.sqrt_pos.2 hv
    rw [abs_mul, abs_inv, abs_of_pos hq, ← div_eq_mul_inv, div_le_iff₀ hq]
    refine abs_le_of_sq_le_sq ?_ (by positivity)
    rw [mul_pow, Real.sq_sqrt hv.le]; nlinarith

/-- A value within ±`BM` is a real number within ±`BM`. -/
theorem real_of_bound (v : EReal) (h : max v (-v) ≤ ((BM : ℝ) : EReal)) : ∃ r : ℝ, v = (r : EReal) ∧ |r| ≤ BM := by
  induction v with
  | bot => simp at h
  | top => simp at h
  | coe r =>
    refine ⟨r, rfl, abs_le.2 ?_⟩
    obtain ⟨h1, h2⟩ := max_le_iff.1 h
    rw [← EReal.coe_neg] at h2
    have h1' := EReal.coe_le_coe_iff.1 h1
    have h2' := EReal.coe_le_coe_iff.1 h2
    constructor <;> linarith

/-- An entry of a normalised row is a real number of magnitude at most `42 · BM`. -/
theorem yv_bound (x g b : Fin 1664 → EReal) (hg : ∀ j, max (g j) (-(g j)) ≤ ((BM : ℝ) : EReal)) (hb : ∀ j, max (b j) (-(b j)) ≤ ((BM : ℝ) : EReal)) (j : Fin 1664) :
    ∃ t : ℝ, yv x g b j = (t : EReal) ∧ |t| ≤ 42 * BM := by
  obtain ⟨t, ht, h41⟩ := dev_bound (fun i => x i - mean x) j
  obtain ⟨p, hp, hp'⟩ := real_of_bound _ (hg j)
  obtain ⟨q, hq, hq'⟩ := real_of_bound _ (hb j)
  refine ⟨t * p + q, ?_, ?_⟩
  · have ht' : (x j - mean x) * rsig x = (t : EReal) := ht
    unfold yv
    rw [ht', hp, hq, ← EReal.coe_mul, ← EReal.coe_add]
  · have h1 : |t * p + q| ≤ |t| * |p| + |q| := (abs_add_le _ _).trans (by rw [abs_mul])
    have h2 : |t| * |p| ≤ 41 * BM := mul_le_mul h41 hp' (abs_nonneg _) (by norm_num)
    linarith

/-- The largest magnitude of a family of such values is a real number between 0 and `42 · BM`. -/
theorem top_bound (f : Fin 128 → EReal) (hf : ∀ l, ∃ t : ℝ, f l = (t : EReal) ∧ |t| ≤ 42 * BM) :
    ∃ a : ℝ, (top fun l : Fin 128 => FloatOps.absf (F := Ideal) (φ := .f32) (f l)) = (a : EReal) ∧ 0 ≤ a ∧ a ≤ 42 * BM := by
  choose t ht hl using hf
  have e : (fun l : Fin 128 => FloatOps.absf (F := Ideal) (φ := .f32) (f l)) = fun l => ((|t l| : ℝ) : EReal) := by
    funext l
    show max (f l) (-(f l)) = _
    rw [ht, ← EReal.coe_neg]
    exact (EReal.coe_strictMono.monotone.map_max (a := t l) (b := -(t l))).symm
  rw [e]
  unfold top
  rw [ofBits_negInf]
  have hle : (Finset.univ.fold max (⊥ : EReal) fun l : Fin 128 => ((|t l| : ℝ) : EReal)) ≤ ((42 * BM : ℝ) : EReal) :=
    (Finset.fold_max_le _).2 ⟨bot_le, fun l _ => EReal.coe_le_coe_iff.2 (hl l)⟩
  have hge : (0 : EReal) ≤ (Finset.univ.fold max (⊥ : EReal) fun l : Fin 128 => ((|t l| : ℝ) : EReal)) :=
    (Finset.le_fold_max _).2 (Or.inr ⟨0, Finset.mem_univ _, by exact_mod_cast abs_nonneg (t 0)⟩)
  generalize (Finset.univ.fold max (⊥ : EReal) fun l : Fin 128 => ((|t l| : ℝ) : EReal)) = w at hle hge
  induction w with
  | bot => simp at hge
  | top => exact absurd hle (not_le.2 (EReal.coe_lt_top _))
  | coe a => exact ⟨a, rfl, by exact_mod_cast hge, EReal.coe_le_coe_iff.1 hle⟩

/-- A magnitude of at most `42 · BM`, over 448, lies below the bound at which the two scales agree. -/
theorem lim_of_le (a : ℝ) (h : a ≤ 42 * BM) : a * (9586981 * (2 : ℝ) ^ (-32 : ℤ)) < LIM := by
  have hp : (0 : ℝ) < 9586981 * (2 : ℝ) ^ (-32 : ℤ) := by positivity
  refine (mul_le_mul_of_nonneg_right h hp.le).trans_lt ?_
  unfold BM LIM
  norm_num

/-- The two scales, and the two inverse scales, agree at the largest magnitude of such a family. -/
theorem top_agree (f : Fin 128 → EReal) (hf : ∀ l, ∃ t : ℝ, f l = (t : EReal) ∧ |t| ≤ 42 * BM) :
    sK (top fun l : Fin 128 => FloatOps.absf (F := Ideal) (φ := .f32) (f l)) = sR (top fun l : Fin 128 => FloatOps.absf (F := Ideal) (φ := .f32) (f l))
    ∧ iK (top fun l : Fin 128 => FloatOps.absf (F := Ideal) (φ := .f32) (f l)) = iR (top fun l : Fin 128 => FloatOps.absf (F := Ideal) (φ := .f32) (f l)) := by
  obtain ⟨a, ha, h0, h1⟩ := top_bound f hf
  rw [ha]
  exact scales_agree a h0 (lim_of_le a h1)

section
variable (X : Fin 47104 → Fin 1664 → EReal) (G B : Fin 1664 → EReal) (hG : ∀ j, max (G j) (-(G j)) ≤ ((BM : ℝ) : EReal)) (hB : ∀ j, max (B j) (-(B j)) ≤ ((BM : ℝ) : EReal))
include hG hB

/-- The row codes are the same with either inverse scale. -/
theorem F0_agree (i : Fin 47104) (j : Fin 1664) : F0 iK X G B i j = F0 iR X G B i j := by
  unfold F0 rmax; rw [(top_agree _ fun l => yv_bound (X i) G B hG hB _).2]
/-- The row scales are the same. -/
theorem F1_agree (i : Fin 47104) (q : Fin 13) : F1 sK X G B i q = F1 sR X G B i q := by
  unfold F1 rmax; rw [(top_agree _ fun l => yv_bound (X i) G B hG hB _).1]
/-- The column codes are the same with either inverse scale. -/
theorem F2_agree (j : Fin 1664) (i : Fin 47104) : F2 iK X G B j i = F2 iR X G B j i := by
  unfold F2 cmax; rw [(top_agree _ fun r => yv_bound (grpX X _ r) G B hG hB j).2]
/-- The column scales are the same. -/
theorem F3_agree (j : Fin 1664) (k : Fin 368) : F3 sK X G B j k = F3 sR X G B j k := by
  unfold F3 cmax; rw [(top_agree _ fun r => yv_bound (grpX X _ r) G B hG hB j).1]
end

end Cert.Spec
-- ==== Proof.Pre.lean ====
module

public import proofs.«01_k».proof.Defs
public import proofs.«01_k».proof.Proof.Bound
public import Idealize.ShloMosaic.Lib.ReduceAll

@[expose] public section

noncomputable section

/-! # What the precondition says -/
namespace Cert.Pre_finite_affine.Hand

open Idealize.ShloMosaic Cert.Pre_finite_affine

/-- The side conditions of the precondition's operations hold. -/
theorem facts : Cert.Pre_finite_affine.Facts where
  bitsLt_bf16_f32 := by decide
  bcast_S_S1664 := by decide
  reducesTo_S1664_S_d0 := by decide
  h_S_ := by decide

attribute [local instance] facts

/-- A comparison "at most" that came out 1 holds. -/
theorem le_of_cmp (v w : EReal) (h : Ideal.cmp .ole v w = 1#1) : v ≤ w := by
  by_contra hn
  rw [Ideal.cmp, decide_eq_false hn] at h
  exact absurd h (by decide)

/-- Under the precondition every entry of `gamma` and of `beta` lies within the finite range of the 16-bit format. -/
theorem bounds (x : FVec Ideal S23x2048x1664 .bf16) (g b : FVec Ideal S1664 .bf16) (h : fn (F := Ideal) x g b = fun _ => 1#1) (j : Fin 1664) :
    max (Cert.Spec.gOf g j) (-(Cert.Spec.gOf g j)) ≤ ((Cert.Spec.BM : ℝ) : EReal) ∧ max (Cert.Spec.gOf b j) (-(Cert.Spec.gOf b j)) ≤ ((Cert.Spec.BM : ℝ) : EReal) := by
  have h' := congrFun h ix0
  unfold fn at h'
  obtain ⟨h1, h2⟩ := IntOp.andi_eq_one.1 h'
  have e1 := Host.reduce_andi_eq_one _ _ _ _ _ h1 (ix1 j) (Subsingleton.elim _ _)
  have e2 := Host.reduce_andi_eq_one _ _ _ _ _ h2 (ix1 j) (Subsingleton.elim _ _)
  rw [← Cert.Spec.ofBits_bm]
  have c1 : Ideal.cmp .ole (max (g (ix1 j)) (-(g (ix1 j)))) (Ideal.ofBits .f32 0x7F7F0000#32) = 1#1 := e1
  have c2 : Ideal.cmp .ole (max (b (ix1 j)) (-(b (ix1 j)))) (Ideal.ofBits .f32 0x7F7F0000#32) = 1#1 := e2
  exact ⟨le_of_cmp _ _ c1, le_of_cmp _ _ c2⟩

end Cert.Pre_finite_affine.Hand
-- ==== Proof.lean ====
module

public import proofs.«01_k».proof.Defs
public import proofs.«01_k».proof.Proof.KBody
public import proofs.«01_k».proof.Proof.IFinal
public import proofs.«01_k».proof.Proof.Ref
public import proofs.«01_k».proof.Proof.Bound
public import proofs.«01_k».proof.Proof.Pre
public import Idealize.ShloMosaic.Lib.Quiescent

@[expose] public section

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_affine.Hand.facts

/-- The kernel at the machine's own words: it runs, its arguments end unchanged, its counters end at zero. -/
theorem frame_kernel : Cert.quiescent_Kernel := fun m g _ => Cert.Kernel.Hand.frame m g

/-- The same of the idealised kernel. -/
theorem frame_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run _ _ _).mono (fun r h => ⟨fun c => (h.1 c).2.2.2.2.2.2, h.2⟩) (Cert.KernelIdeal.Hand.run m g)

/-- The same of the reference. -/
theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2.2.2.2, sem_eq_zero_of_no_sems rfl _⟩) (Cert.ReferenceIdeal.Value.run m g)

/-- Under the precondition the two programs end with equal results. -/
theorem values : Cert.algebraic_KernelIdeal_ReferenceIdeal_pre_finite_affine := by
  intro m g m' g' hpre hag
  have hG := fun c j => (Cert.Pre_finite_affine.Hand.bounds _ _ _ (hpre c) j).1
  have hB := fun c j => (Cert.Pre_finite_affine.Hand.bounds _ _ _ (hpre c) j).2
  refine ⟨Cert.KernelIdeal.Hand.arr4 m, Cert.KernelIdeal.Hand.end15 m, Cert.KernelIdeal.Hand.arr6 m, Cert.KernelIdeal.Hand.end16 m,
    Cert.KernelIdeal.Hand.end17 m, Cert.KernelIdeal.Hand.end18 m,
    (θ_run _ _ _).mono (fun r h => h.1) (Cert.KernelIdeal.Hand.run m g),
    (θ_run _ _ _).mono (fun r h c => ?_) (Cert.ReferenceIdeal.Value.run m' g')⟩
  obtain ⟨h0, h1, h2, h3, h4, h5, ha⟩ := h c
  obtain ⟨a0, a1, a2⟩ := hag c
  refine ⟨h0.trans ?_, h1.trans ?_, h2.trans ?_, h3.trans ?_, h4.trans ?_, h5.trans ?_, ha⟩
  · refine Cert.KernelIdeal.Hand.ext2 fun i j => ?_
    rw [Cert.ReferenceIdeal.Pay.out0_at m' c i j, a0, a1, a2]
    exact (Cert.Spec.F0_agree _ _ _ (hG c) (hB c) i j).symm
  · refine Cert.KernelIdeal.Hand.ext2 fun i j => ?_
    rw [Cert.ReferenceIdeal.Pay.out1_at m' c i j, a0, a1, a2]
    exact (Cert.Spec.F1_agree _ _ _ (hG c) (hB c) i j).symm
  · refine Cert.KernelIdeal.Hand.ext2 fun i j => ?_
    rw [Cert.ReferenceIdeal.Pay.out2_at m' c i j, a0, a1, a2]
    exact (Cert.Spec.F2_agree _ _ _ (hG c) (hB c) i j).symm
  · refine Cert.KernelIdeal.Hand.ext2 fun i j => ?_
    rw [Cert.ReferenceIdeal.Pay.out3_at m' c i j, a0, a1, a2]
    exact (Cert.Spec.F3_agree _ _ _ (hG c) (hB c) i j).symm
  · refine Cert.KernelIdeal.Hand.ext1 fun i => ?_
    refine (Cert.ReferenceIdeal.Pay.rs_at _ i).trans ?_
    rw [a0]; rfl
  · refine Cert.KernelIdeal.Hand.ext1 fun i => ?_
    refine (Cert.ReferenceIdeal.Pay.mn_at _ i).trans ?_
    rw [a0]; rfl

/-- Everything claimed. -/
theorem claim : Cert.Claim :=
  ⟨Cert.Kernel.Gen.facts, Cert.KernelIdeal.Gen.facts, Cert.ReferenceIdeal.Gen.facts, Cert.Pre_finite_affine.Hand.facts,
    frame_kernel, fun m g _ => frame_ideal m g, fun m g _ => frame_ideal m g, fun m g _ => frame_ref m g, fun m g _ => frame_ref m g,
    trivial, values⟩

end Cert.Proof

end
